-- ==== Defs.lean ====
def Pre_QuantX (m : (ℓ : Loc Cert.QuantX.nD Cert.QuantX.τ Cert.QuantX.sig) → Buf (Elt Bits) ℓ) : Prop :=
  True

def Pre_QuantXIdeal (m : (ℓ : Loc Cert.QuantXIdeal.nD Cert.QuantXIdeal.τ Cert.QuantXIdeal.sig) → Buf (Elt Ideal) ℓ) : Prop :=
  True

def Pre_QuantRefIdeal (m : (ℓ : Loc Cert.QuantRefIdeal.nD Cert.QuantRefIdeal.τ Cert.QuantRefIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def quiescent_QuantX [hQuantX : Cert.QuantX.Facts] : Prop :=
  ∀ (m : (ℓ : Loc Cert.QuantX.nD Cert.QuantX.τ Cert.QuantX.sig) → Buf (Elt Bits) ℓ) (g : Dev Cert.QuantX.nD → PrngReg), Pre_QuantX m →
    θ_run (Cert.QuantX.defs (F := Bits)) (onTc (τ := Cert.QuantX.τ) (Cert.QuantX.main (F := Bits))) ⟨m, fun _ => 0, g⟩ (fun r => (∀ c : Dev Cert.QuantX.nD,
      r.2.mem ((c.tc : Thread Cert.QuantX.nD Cert.QuantX.τ).loc Cert.QuantX.main_arg0) = m ((c.tc : Thread Cert.QuantX.nD Cert.QuantX.τ).loc Cert.QuantX.main_arg0))
      ∧ r.2.sem = fun _ => 0)

def quiescent_QuantXIdeal [hQuantXIdeal : Cert.QuantXIdeal.Facts] : Prop :=
  ∀ (m : (ℓ : Loc Cert.QuantXIdeal.nD Cert.QuantXIdeal.τ Cert.QuantXIdeal.sig) → Buf (Elt Ideal) ℓ) (g : Dev Cert.QuantXIdeal.nD → PrngReg), Pre_QuantXIdeal m →
    θ_run (Cert.QuantXIdeal.defs (F := Ideal)) (onTc (τ := Cert.QuantXIdeal.τ) (Cert.QuantXIdeal.main (F := Ideal))) ⟨m, fun _ => 0, g⟩ (fun r => (∀ c : Dev Cert.QuantXIdeal.nD,
      r.2.mem ((c.tc : Thread Cert.QuantXIdeal.nD Cert.QuantXIdeal.τ).loc Cert.QuantXIdeal.main_arg0) = m ((c.tc : Thread Cert.QuantXIdeal.nD Cert.QuantXIdeal.τ).loc Cert.QuantXIdeal.main_arg0))
      ∧ r.2.sem = fun _ => 0)

def quiescent_QuantRefIdeal [hQuantRefIdeal : Cert.QuantRefIdeal.Facts] : Prop :=
  ∀ (m : (ℓ : Loc Cert.QuantRefIdeal.nD Cert.QuantRefIdeal.τ Cert.QuantRefIdeal.sig) → Buf (Elt Ideal) ℓ) (g : Dev Cert.QuantRefIdeal.nD → PrngReg), Pre_QuantRefIdeal m →
    θ_run (Cert.QuantRefIdeal.defs (F := Ideal)) (onTc (τ := Cert.QuantRefIdeal.τ) (Cert.QuantRefIdeal.main (F := Ideal))) ⟨m, fun _ => 0, g⟩ (fun r => (∀ c : Dev Cert.QuantRefIdeal.nD,
      r.2.mem ((c.tc : Thread Cert.QuantRefIdeal.nD Cert.QuantRefIdeal.τ).loc Cert.QuantRefIdeal.main_arg0) = m ((c.tc : Thread Cert.QuantRefIdeal.nD Cert.QuantRefIdeal.τ).loc Cert.QuantRefIdeal.main_arg0))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def preserves_QuantX_QuantXIdeal : Prop :=
  True

def algebraic_QuantXIdeal_QuantRefIdeal [hQuantXIdeal : Cert.QuantXIdeal.Facts] [hQuantRefIdeal : Cert.QuantRefIdeal.Facts] : Prop :=
  ∀ (m : (ℓ : Loc Cert.QuantXIdeal.nD Cert.QuantXIdeal.τ Cert.QuantXIdeal.sig) → Buf (Elt Ideal) ℓ) (g : Dev Cert.QuantXIdeal.nD → PrngReg)
    (m' : (ℓ : Loc Cert.QuantRefIdeal.nD Cert.QuantRefIdeal.τ Cert.QuantRefIdeal.sig) → Buf (Elt Ideal) ℓ) (g' : Dev Cert.QuantRefIdeal.nD → PrngReg), Pre_QuantXIdeal m →
    (∀ c : Dev Cert.QuantXIdeal.nD,
      m' ((c.tc : Thread Cert.QuantRefIdeal.nD Cert.QuantRefIdeal.τ).loc Cert.QuantRefIdeal.main_arg0) = m ((c.tc : Thread Cert.QuantXIdeal.nD Cert.QuantXIdeal.τ).loc Cert.QuantXIdeal.main_arg0)) →
    ∃ (v0 : (c : Dev Cert.QuantXIdeal.nD) → Buf (Elt Ideal) ((c.tc : Thread Cert.QuantXIdeal.nD Cert.QuantXIdeal.τ).loc Cert.QuantXIdeal.main_v1_0)) (v1 : (c : Dev Cert.QuantXIdeal.nD) → Buf (Elt Ideal) ((c.tc : Thread Cert.QuantXIdeal.nD Cert.QuantXIdeal.τ).loc Cert.QuantXIdeal.main_v1_1)),
      θ_run (Cert.QuantXIdeal.defs (F := Ideal)) (onTc (τ := Cert.QuantXIdeal.τ) (Cert.QuantXIdeal.main (F := Ideal))) ⟨m, fun _ => 0, g⟩ (fun r => ∀ c : Dev Cert.QuantXIdeal.nD,
          r.2.mem ((c.tc : Thread Cert.QuantXIdeal.nD Cert.QuantXIdeal.τ).loc Cert.QuantXIdeal.main_v1_0) = v0 c
          ∧ r.2.mem ((c.tc : Thread Cert.QuantXIdeal.nD Cert.QuantXIdeal.τ).loc Cert.QuantXIdeal.main_v1_1) = v1 c
          ∧ r.2.mem ((c.tc : Thread Cert.QuantXIdeal.nD Cert.QuantXIdeal.τ).loc Cert.QuantXIdeal.main_arg0) = m ((c.tc : Thread Cert.QuantXIdeal.nD Cert.QuantXIdeal.τ).loc Cert.QuantXIdeal.main_arg0))
      ∧ θ_run (Cert.QuantRefIdeal.defs (F := Ideal)) (onTc (τ := Cert.QuantRefIdeal.τ) (Cert.QuantRefIdeal.main (F := Ideal))) ⟨m', fun _ => 0, g'⟩ (fun r => ∀ c : Dev Cert.QuantRefIdeal.nD,
          r.2.mem ((c.tc : Thread Cert.QuantRefIdeal.nD Cert.QuantRefIdeal.τ).loc Cert.QuantRefIdeal.main_v1_0) = v0 c
          ∧ r.2.mem ((c.tc : Thread Cert.QuantRefIdeal.nD Cert.QuantRefIdeal.τ).loc Cert.QuantRefIdeal.main_v1_1) = v1 c
          ∧ r.2.mem ((c.tc : Thread Cert.QuantRefIdeal.nD Cert.QuantRefIdeal.τ).loc Cert.QuantRefIdeal.main_arg0) = m' ((c.tc : Thread Cert.QuantRefIdeal.nD Cert.QuantRefIdeal.τ).loc Cert.QuantRefIdeal.main_arg0))

def preserves_GateUp_GateUpIdeal : Prop :=
  True

def algebraic_GateUpIdeal_GateRefIdeal [hGateUpIdeal : Cert.GateUpIdeal.Facts] [hGateRefIdeal : Cert.GateRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateUpIdeal m →
    (∀ c : Dev Cert.GateUpIdeal.nD,
      m' ((c.tc : Thread Cert.GateRefIdeal.nD Cert.GateRefIdeal.τ).loc Cert.GateRefIdeal.main_arg0) = m ((c.tc : Thread Cert.GateUpIdeal.nD Cert.GateUpIdeal.τ).loc Cert.GateUpIdeal.main_arg0)
      ∧ m' ((c.tc : Thread Cert.GateRefIdeal.nD Cert.GateRefIdeal.τ).loc Cert.GateRefIdeal.main_arg1) = m ((c.tc : Thread Cert.GateUpIdeal.nD Cert.GateUpIdeal.τ).loc Cert.GateUpIdeal.main_arg1)
      ∧ m' ((c.tc : Thread Cert.GateRefIdeal.nD Cert.GateRefIdeal.τ).loc Cert.GateRefIdeal.main_arg2) = m ((c.tc : Thread Cert.GateUpIdeal.nD Cert.GateUpIdeal.τ).loc Cert.GateUpIdeal.main_arg2)
      ∧ m' ((c.tc : Thread Cert.GateRefIdeal.nD Cert.GateRefIdeal.τ).loc Cert.GateRefIdeal.main_arg3) = m ((c.tc : Thread Cert.GateUpIdeal.nD Cert.GateUpIdeal.τ).loc Cert.GateUpIdeal.main_arg3)) →
    ∃ (v0 : (c : Dev Cert.GateUpIdeal.nD) → Buf (Elt Ideal) ((c.tc : Thread Cert.GateUpIdeal.nD Cert.GateUpIdeal.τ).loc Cert.GateUpIdeal.main_v1_1)) (v1 : (c : Dev Cert.GateUpIdeal.nD) → Buf (Elt Ideal) ((c.tc : Thread Cert.GateUpIdeal.nD Cert.GateUpIdeal.τ).loc Cert.GateUpIdeal.main_v1_0)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v1_1) = v0 c
          ∧ r.2.mem ((c.tc : Thread Cert.GateUpIdeal.nD Cert.GateUpIdeal.τ).loc Cert.GateUpIdeal.main_v1_0) = v1 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v1_1) = v0 c
          ∧ r.2.mem ((c.tc : Thread Cert.GateRefIdeal.nD Cert.GateRefIdeal.τ).loc Cert.GateRefIdeal.main_v1_0) = v1 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3))

def Claim : Prop :=
  ∃ (hQuantX : Cert.QuantX.Facts) (hQuantXIdeal : Cert.QuantXIdeal.Facts) (hQuantRefIdeal : Cert.QuantRefIdeal.Facts) (hGateUp : Cert.GateUp.Facts) (hGateUpIdeal : Cert.GateUpIdeal.Facts) (hGateRefIdeal : Cert.GateRefIdeal.Facts),
    quiescent_QuantX (hQuantX := hQuantX)
    ∧ quiescent_QuantXIdeal (hQuantXIdeal := hQuantXIdeal)
    ∧ quiescent_QuantRefIdeal (hQuantRefIdeal := hQuantRefIdeal)
    ∧ quiescent_GateUp (hGateUp := hGateUp)
    ∧ quiescent_GateUpIdeal (hGateUpIdeal := hGateUpIdeal)
    ∧ quiescent_GateRefIdeal (hGateRefIdeal := hGateRefIdeal)
    ∧ preserves_QuantX_QuantXIdeal
    ∧ algebraic_QuantXIdeal_QuantRefIdeal (hQuantXIdeal := hQuantXIdeal) (hQuantRefIdeal := hQuantRefIdeal)
    ∧ preserves_GateUp_GateUpIdeal
    ∧ algebraic_GateUpIdeal_GateRefIdeal (hGateUpIdeal := hGateUpIdeal) (hGateRefIdeal := hGateRefIdeal)
-- ==== QuantX.lean ====
abbrev S4x768x16384 : Shape := ⟨3, ![4, 768, 16384]⟩
abbrev S3072x16384 : Shape := ⟨2, ![3072, 16384]⟩
abbrev S3072x1 : Shape := ⟨2, ![3072, 1]⟩
abbrev S128x16384 : Shape := ⟨2, ![128, 16384]⟩
abbrev S128x1 : Shape := ⟨2, ![128, 1]⟩
abbrev S128 : Shape := ⟨1, ![128]⟩

abbrev nBuf : Space → Nat
  | .hbm => 4
  | .vmem => 6
  | .smem => 0
  | _ => 0

abbrev bufTy : (tb : Table) → Fin (tcTables nBuf tb) → BufTy
  | .hbm, ⟨0, _⟩ => ⟨S4x768x16384, .bf16⟩
  | .hbm, ⟨1, _⟩ => ⟨S3072x16384, .bf16⟩
  | .hbm, ⟨2, _⟩ => ⟨S3072x16384, .fp8e4m3⟩
  | .hbm, ⟨3, _⟩ => ⟨S3072x1, .f32⟩
  | .local _ .vmem, ⟨0, _⟩ => ⟨S128x16384, .bf16⟩
  | .local _ .vmem, ⟨1, _⟩ => ⟨S128x16384, .bf16⟩
  | .local _ .vmem, ⟨2, _⟩ => ⟨S128x16384, .fp8e4m3⟩
  | .local _ .vmem, ⟨3, _⟩ => ⟨S128x16384, .fp8e4m3⟩
  | .local _ .vmem, ⟨4, _⟩ => ⟨S128x1, .f32⟩
  | .local _ .vmem, ⟨5, _⟩ => ⟨S128x1, .f32⟩
  | _, _ => ⟨S4x768x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x16384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x16384 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== QuantRefIdeal.lean ====
abbrev S4x768x16384 : Shape := ⟨3, ![4, 768, 16384]⟩
abbrev S3072x16384 : Shape := ⟨2, ![3072, 16384]⟩
abbrev S3072x1 : Shape := ⟨2, ![3072, 1]⟩
abbrev S3072 : Shape := ⟨1, ![3072]⟩
abbrev S3072x253 : Shape := ⟨2, ![3072, 253]⟩

abbrev nBuf : Space → Nat
  | .hbm => 4
  | .vmem => 3
  | .smem => 0
  | _ => 0

abbrev bufTy : (tb : Table) → Fin (tcTables nBuf tb) → BufTy
  | .hbm, ⟨0, _⟩ => ⟨S4x768x16384, .bf16⟩
  | .hbm, ⟨1, _⟩ => ⟨S3072x16384, .bf16⟩
  | .hbm, ⟨2, _⟩ => ⟨S3072x16384, .fp8e4m3⟩
  | .hbm, ⟨3, _⟩ => ⟨S3072x1, .f32⟩
  | .local _ .vmem, ⟨0, _⟩ => ⟨S3072x16384, .bf16⟩
  | .local _ .vmem, ⟨1, _⟩ => ⟨S3072x16384, .fp8e4m3⟩
  | .local _ .vmem, ⟨2, _⟩ => ⟨S3072x1, .f32⟩
  | _, _ => ⟨S4x768x16384, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S3072x16384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x16384 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3072x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== GateUp.lean ====
abbrev S3072x16384 : Shape := ⟨2, ![3072, 16384]⟩
abbrev S3072x1 : Shape := ⟨2, ![3072, 1]⟩
abbrev S16384x13312 : Shape := ⟨2, ![16384, 13312]⟩
abbrev S13312 : Shape := ⟨1, ![13312]⟩
abbrev S1x13312 : Shape := ⟨2, ![1, 13312]⟩
abbrev S3072x6656 : Shape := ⟨2, ![3072, 6656]⟩
abbrev S512x16384 : Shape := ⟨2, ![512, 16384]⟩
abbrev S512x1 : Shape := ⟨2, ![512, 1]⟩
abbrev S16384x256 : Shape := ⟨2, ![16384, 256]⟩
abbrev S1x256 : Shape := ⟨2, ![1, 256]⟩
abbrev S512x6656 : Shape := ⟨2, ![512, 6656]⟩
abbrev S26x512x256 : Shape := ⟨3, ![26, 512, 256]⟩
abbrev S512x128 : Shape := ⟨2, ![512, 128]⟩
abbrev S512x256 : Shape := ⟨2, ![512, 256]⟩
abbrev S1x512x256 : Shape := ⟨3, ![1, 512, 256]⟩
abbrev S512 : Shape := ⟨1, ![512]⟩

abbrev nBuf : Space → Nat
  | .hbm => 7
  | .vmem => 18
  | .smem => 0
  | _ => 0

abbrev bufTy : (tb : Table) → Fin (tcTables nBuf tb) → BufTy
  | .hbm, ⟨0, _⟩ => ⟨S3072x16384, .fp8e4m3⟩
  | .hbm, ⟨1, _⟩ => ⟨S3072x1, .f32⟩
  | .hbm, ⟨2, _⟩ => ⟨S16384x13312, .fp8e4m3⟩
  | .hbm, ⟨3, _⟩ => ⟨S13312, .f32⟩
  | .hbm, ⟨4, _⟩ => ⟨S1x13312, .f32⟩
  | .hbm, ⟨5, _⟩ => ⟨S3072x6656, .fp8e4m3⟩
  | .hbm, ⟨6, _⟩ => ⟨S3072x1, .f32⟩
  | .local _ .vmem, ⟨0, _⟩ => ⟨S512x16384, .fp8e4m3⟩
  | .local _ .vmem, ⟨1, _⟩ => ⟨S512x16384, .fp8e4m3⟩
  | .local _ .vmem, ⟨2, _⟩ => ⟨S512x1, .f32⟩
  | .local _ .vmem, ⟨3, _⟩ => ⟨S512x1, .f32⟩
  | .local _ .vmem, ⟨4, _⟩ => ⟨S16384x256, .fp8e4m3⟩
  | .local _ .vmem, ⟨5, _⟩ => ⟨S16384x256, .fp8e4m3⟩
  | .local _ .vmem, ⟨6, _⟩ => ⟨S16384x256, .fp8e4m3⟩
  | .local _ .vmem, ⟨7, _⟩ => ⟨S16384x256, .fp8e4m3⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S512x6656, .fp8e4m3⟩
  | .local _ .vmem, ⟨13, _⟩ => ⟨S512x6656, .fp8e4m3⟩
  | .local _ .vmem, ⟨14, _⟩ => ⟨S512x1, .f32⟩
  | .local _ .vmem, ⟨15, _⟩ => ⟨S512x1, .f32⟩
  | .local _ .vmem, ⟨16, _⟩ => ⟨S26x512x256, .f32⟩
  | .local _ .vmem, ⟨17, _⟩ => ⟨S512x128, .f32⟩
  | _, _ => ⟨S3072x16384, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![6, 26], ![false, false]⟩

def k0_off1 (i : grid0.Coords) : Fin 3 → Nat :=
  let arg1 : BitVec 32 := BitVec.ofNat 32 (i 1).val
  let v21 : Index := Scalar.indexCast arg1
  let c0_12 : Index := 0#32
  let c0_13 : Index := 0#32
  ![v21.toNat, 0, 0]
def k0_cond3 (i : grid0.Coords) : BitVec 1 :=
  let arg1 : BitVec 32 := BitVec.ofNat 32 (i 1).val
  let c25_i32 : BitVec 32 := 25#32
  let v35 : BitVec 1 := Scalar.cmpi .eq arg1 c25_i32
  let v36 : BitVec 32 := Scalar.extui v35
  let c0_i32_17 : BitVec 32 := 0#32
  let v37 : BitVec 1 := Scalar.cmpi .ne v36 c0_i32_17
  v37

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c26_i32 : BitVec 32 := 26#32
  let v0 : BitVec 32 := Scalar.addi arg1 c26_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c26_i32 : BitVec 32 := 26#32
  let v0 : BitVec 32 := Scalar.addi arg1 c26_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x16384 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16384x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S16384x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x6656 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== GateRefIdeal.lean ====
abbrev S3072x16384 : Shape := ⟨2, ![3072, 16384]⟩
abbrev S3072x1 : Shape := ⟨2, ![3072, 1]⟩
abbrev S16384x13312 : Shape := ⟨2, ![16384, 13312]⟩
abbrev S13312 : Shape := ⟨1, ![13312]⟩
abbrev S1x13312 : Shape := ⟨2, ![1, 13312]⟩
abbrev S3072x6656 : Shape := ⟨2, ![3072, 6656]⟩
abbrev S3072x13312 : Shape := ⟨2, ![3072, 13312]⟩
abbrev S3072 : Shape := ⟨1, ![3072]⟩
abbrev S3072x253 : Shape := ⟨2, ![3072, 253]⟩

abbrev nBuf : Space → Nat
  | .hbm => 7
  | .vmem => 6
  | .smem => 0
  | _ => 0

abbrev bufTy : (tb : Table) → Fin (tcTables nBuf tb) → BufTy
  | .hbm, ⟨0, _⟩ => ⟨S3072x16384, .fp8e4m3⟩
  | .hbm, ⟨1, _⟩ => ⟨S3072x1, .f32⟩
  | .hbm, ⟨2, _⟩ => ⟨S16384x13312, .fp8e4m3⟩
  | .hbm, ⟨3, _⟩ => ⟨S13312, .f32⟩
  | .hbm, ⟨4, _⟩ => ⟨S1x13312, .f32⟩
  | .hbm, ⟨5, _⟩ => ⟨S3072x6656, .fp8e4m3⟩
  | .hbm, ⟨6, _⟩ => ⟨S3072x1, .f32⟩
  | .local _ .vmem, ⟨0, _⟩ => ⟨S3072x16384, .fp8e4m3⟩
  | .local _ .vmem, ⟨1, _⟩ => ⟨S3072x1, .f32⟩
  | .local _ .vmem, ⟨2, _⟩ => ⟨S16384x13312, .fp8e4m3⟩
  | .local _ .vmem, ⟨3, _⟩ => ⟨S1x13312, .f32⟩
  | .local _ .vmem, ⟨4, _⟩ => ⟨S3072x6656, .fp8e4m3⟩
  | .local _ .vmem, ⟨5, _⟩ => ⟨S3072x1, .f32⟩
  | _, _ => ⟨S3072x16384, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S3072x16384 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x13312 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x13312 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3072x6656 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3072x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Quant.lean ====
/-
  The power-of-two quantiser of one row, on the extended reals: the exponent found by comparisons against
  powers of two (as the kernel finds it) and the least power of two above a number (as the reference states it)
  are the same number.
-/
module

public import Idealize.ShloMosaic.Lib.Pointwise.Reduce
public import Idealize.ShloMosaic.PureOps.Ideal.Laws
public import Mathlib.Data.Nat.Find

@[expose] public section

set_option maxRecDepth 16384

noncomputable section

namespace Cert.Quant

open Idealize.ShloMosaic

/-- The number whose bit pattern is `k` in the exponent field and zero elsewhere. -/
def pow (k : ℕ) : EReal := if k = 0 then 0 else if k = 255 then ⊤ else (((2 : ℝ) ^ ((k : ℤ) - 127) : ℝ) : EReal)

/-- The three fields of a pattern that has only an exponent. -/
theorem fields : ∀ k : Fin 256, ((BitVec.ofNat 32 k.val) <<< 23).extractLsb' 31 1 = 0#1
    ∧ (((BitVec.ofNat 32 k.val) <<< 23).extractLsb' 23 8).toNat = k.val
    ∧ (((BitVec.ofNat 32 k.val) <<< 23).extractLsb' 0 23).toNat = 0 := by decide +kernel

/-- An exponent field shifted into place, read as a number. -/
def bits (f : BitVec 32) : Ideal .f32 := FloatOps.ofBits (F := Ideal) .f32 (IntOp.shli .vector f 23#32)

theorem bits_ofNat (k : ℕ) (hk : k < 256) : bits (BitVec.ofNat 32 k) = pow k := by
  obtain ⟨h1, h2, h3⟩ := fields ⟨k, hk⟩
  have e : IntOp.shli .vector (BitVec.ofNat 32 k) 23#32 = (BitVec.ofNat 32 k) <<< 23 := rfl
  have e' : bits (BitVec.ofNat 32 k) = Ideal.ieee 8 23 ((BitVec.ofNat 32 k) <<< 23) := congrArg (Ideal.ieee 8 23) e
  rw [e']
  generalize (BitVec.ofNat 32 k) <<< 23 = b at h1 h2 h3
  simp only [] at h1 h2 h3
  unfold Ideal.ieee pow
  simp only [h1, h2, h3]
  by_cases h0 : k = 0
  · subst h0; simp
  · by_cases h255 : k = 255
    · subst h255; simp
    · simp only [h0, h255, if_false]
      rw [if_neg (by omega), EReal.coe_eq_coe_iff]
      rw [show (((2 ^ 23 + 0 : ℕ) : ℝ)) = (2 : ℝ) ^ (23 : ℤ) by norm_num]
      rw [show ((2 : ℤ) ^ (8 - 1) - 1 : ℤ) = 127 by norm_num]
      rw [if_neg (by decide), one_mul, ← zpow_add₀ (by norm_num)]
      congr 1
      push_cast
      ring

theorem pow_pos_real {k : ℕ} (h0 : k ≠ 0) (h : k ≠ 255) : pow k = (((2 : ℝ) ^ ((k : ℤ) - 127) : ℝ) : EReal) := by
  unfold pow; rw [if_neg h0, if_neg h]

theorem pow_mono {a b : ℕ} (hab : a ≤ b) (hb : b ≤ 255) : pow a ≤ pow b := by
  rcases Nat.eq_zero_or_pos a with h | h
  · subst h
    by_cases hb0 : b = 0
    · subst hb0; exact le_refl _
    by_cases hb5 : b = 255
    · subst hb5; simp [pow]
    rw [pow_pos_real hb0 hb5]
    simp only [pow, if_true]
    exact_mod_cast (by positivity : (0 : ℝ) ≤ 2 ^ ((b : ℤ) - 127))
  · by_cases hb5 : b = 255
    · subst hb5; simp [pow]
    rw [pow_pos_real (by omega) hb5, pow_pos_real (by omega) (by omega), EReal.coe_le_coe_iff]
    exact zpow_le_zpow_right₀ (by norm_num) (by omega)

/-- The exponent field of a number that is not negative: the largest `k` whose power is not above it. -/
theorem exists_field (t : EReal) (ht : 0 ≤ t) : ∃ K ≤ 255, ∀ k ≤ 255, pow k ≤ t ↔ k ≤ K := by
  classical
  refine ⟨Nat.findGreatest (fun k => pow k ≤ t) 255, Nat.findGreatest_le _, fun k hk => ⟨fun h => Nat.le_findGreatest hk h, fun h => ?_⟩⟩
  have h0 : pow (Nat.findGreatest (fun k => pow k ≤ t) 255) ≤ t :=
    Nat.findGreatest_spec (P := fun k => pow k ≤ t) (m := 0) (n := 255) (Nat.zero_le _) (by simpa [pow] using ht)
  exact (pow_mono h (Nat.findGreatest_le _)).trans h0

/-- One step of the search: the bit joins the field where the number reaches the power. -/
def step (t : Ideal .f32) (f b : BitVec 32) : BitVec 32 :=
  Scalar.select (FloatOps.cmpf (F := Ideal) (φ := .f32) .oge t (bits (IntOp.addi f b))) (IntOp.addi f b) f

/-- The search for the exponent field, bit by bit. -/
def field (t : Ideal .f32) : BitVec 32 :=
  step t (step t (step t (step t (step t (step t (step t (step t 0#32 128#32) 64#32) 32#32) 16#32) 8#32) 4#32) 2#32) 1#32

theorem cmp_oge (x y : EReal) : FloatOps.cmpf (F := Ideal) (φ := .f32) .oge x y = BitVec.ofBool (decide (y ≤ x)) := by
  show Ideal.cmp .oge x y = _
  unfold Ideal.cmp
  by_cases h : y ≤ x <;> simp [h]

theorem step_spec (t : EReal) (K : ℕ) (hK : ∀ k ≤ 255, pow k ≤ t ↔ k ≤ K) (f b : ℕ) (hf : f ≤ K) (hlt : K < f + 2 * b)
    (h256 : f + 2 * b ≤ 256) (hb : 0 < b) :
    ∃ f', step t (BitVec.ofNat 32 f) (BitVec.ofNat 32 b) = BitVec.ofNat 32 f' ∧ f' ≤ K ∧ K < f' + b ∧ f' + b ≤ 256 := by
  have e : IntOp.addi (BitVec.ofNat 32 f) (BitVec.ofNat 32 b) = BitVec.ofNat 32 (f + b) := by
    unfold IntOp.addi; rw [BitVec.ofNat_add]
  unfold step
  rw [e, bits_ofNat _ (by omega), cmp_oge]
  by_cases h : f + b ≤ K
  · refine ⟨f + b, ?_, h, by omega, by omega⟩
    have := (hK (f + b) (by omega)).2 h
    simp [Scalar.select, this]
  · refine ⟨f, ?_, hf, by omega, by omega⟩
    have hn : ¬ pow (f + b) ≤ t := fun x => h ((hK (f + b) (by omega)).1 x)
    rw [decide_eq_false hn]
    rfl

theorem field_spec (t : EReal) (K : ℕ) (hK5 : K ≤ 255) (hK : ∀ k ≤ 255, pow k ≤ t ↔ k ≤ K) : field t = BitVec.ofNat 32 K := by
  unfold field
  obtain ⟨f1, e1, a1, b1, c1⟩ := step_spec t K hK 0 128 (Nat.zero_le _) (by omega) (by omega) (by omega)
  obtain ⟨f2, e2, a2, b2, c2⟩ := step_spec t K hK f1 64 a1 (by omega) (by omega) (by omega)
  obtain ⟨f3, e3, a3, b3, c3⟩ := step_spec t K hK f2 32 a2 (by omega) (by omega) (by omega)
  obtain ⟨f4, e4, a4, b4, c4⟩ := step_spec t K hK f3 16 a3 (by omega) (by omega) (by omega)
  obtain ⟨f5, e5, a5, b5, c5⟩ := step_spec t K hK f4 8 a4 (by omega) (by omega) (by omega)
  obtain ⟨f6, e6, a6, b6, c6⟩ := step_spec t K hK f5 4 a5 (by omega) (by omega) (by omega)
  obtain ⟨f7, e7, a7, b7, c7⟩ := step_spec t K hK f6 2 a6 (by omega) (by omega) (by omega)
  obtain ⟨f8, e8, a8, b8, c8⟩ := step_spec t K hK f7 1 a7 (by omega) (by omega) (by omega)
  have : f8 = K := by omega
  subst this
  rw [show (0#32 : BitVec 32) = BitVec.ofNat 32 0 from rfl, show (128#32 : BitVec 32) = BitVec.ofNat 32 128 from rfl, e1,
    show (64#32 : BitVec 32) = BitVec.ofNat 32 64 from rfl, e2, show (32#32 : BitVec 32) = BitVec.ofNat 32 32 from rfl, e3,
    show (16#32 : BitVec 32) = BitVec.ofNat 32 16 from rfl, e4, show (8#32 : BitVec 32) = BitVec.ofNat 32 8 from rfl, e5,
    show (4#32 : BitVec 32) = BitVec.ofNat 32 4 from rfl, e6, show (2#32 : BitVec 32) = BitVec.ofNat 32 2 from rfl, e7,
    show (1#32 : BitVec 32) = BitVec.ofNat 32 1 from rfl, e8]

/-- The kernel's exponent: the field less 126, zero where the field is all zeros or all ones, or the row is zero. -/
def expo (a : Ideal .f32) (f : BitVec 32) : BitVec 32 :=
  Scalar.select (FloatOps.cmpf (F := Ideal) (φ := .f32) .oeq a (FloatOps.ofBits (F := Ideal) .f32 0x00000000#32)) 0#32
    (Scalar.select (IntOp.ori (IntOp.cmpi .eq f 0#32) (IntOp.cmpi .eq f 255#32)) 0#32 (IntOp.subi f 126#32))

/-- The row's maximum over 448, in the one rounding of the constant both programs multiply by. -/
def ratio (a : Ideal .f32) : Ideal .f32 := FloatOps.mulf a (FloatOps.ofBits (F := Ideal) .f32 0x3B124925#32)

/-- The kernel's scale of a row of maximum `a`. -/
def scaleK (a : Ideal .f32) : Ideal .f32 := bits (IntOp.addi 127#32 (expo a (field (ratio a))))

/-- The kernel's inverse scale of a row of maximum `a`. -/
def invK (a : Ideal .f32) : Ideal .f32 := bits (IntOp.maxsi (IntOp.subi 127#32 (expo a (field (ratio a)))) 0#32)

/-- The exponent field of the scale. -/
def up (K : ℕ) : ℕ := if K = 0 ∨ K = 255 then 127 else K + 1

theorem int_facts : ∀ K : Fin 256,
    IntOp.addi 127#32 (Scalar.select (IntOp.ori (IntOp.cmpi .eq (BitVec.ofNat 32 K.val) 0#32) (IntOp.cmpi .eq (BitVec.ofNat 32 K.val) 255#32)) 0#32 (IntOp.subi (BitVec.ofNat 32 K.val) 126#32)) = BitVec.ofNat 32 (up K.val)
    ∧ IntOp.maxsi (IntOp.subi 127#32 (Scalar.select (IntOp.ori (IntOp.cmpi .eq (BitVec.ofNat 32 K.val) 0#32) (IntOp.cmpi .eq (BitVec.ofNat 32 K.val) 255#32)) 0#32 (IntOp.subi (BitVec.ofNat 32 K.val) 126#32))) 0#32 = BitVec.ofNat 32 (254 - up K.val)
    ∧ up K.val < 256 := by decide +kernel

/-- The constant `0x3B124925` is a positive real. -/
theorem recip_pos : ∃ r : ℝ, 0 < r ∧ Ideal.ofBits .f32 0x3B124925#32 = (r : EReal) := by
  refine ⟨_, ?_, by simp only [Ideal.ofBits, Ideal.ieee]; rw [if_neg (by decide), if_neg (by decide)]⟩
  rw [if_neg (by decide)]
  positivity

theorem ratio_nonneg {a : EReal} (ha : 0 ≤ a) : 0 ≤ ratio a := by
  obtain ⟨r, hr, e⟩ := recip_pos
  show 0 ≤ a * Ideal.ofBits .f32 0x3B124925#32
  rw [e]
  exact mul_nonneg ha (by exact_mod_cast hr.le)

/-- The field of a row's ratio, and what the kernel makes of it. -/
theorem kernel_spec {a : EReal} (ha : 0 ≤ a) : ∃ K ≤ 255, (∀ k ≤ 255, pow k ≤ ratio a ↔ k ≤ K)
    ∧ scaleK a = pow (up K) ∧ invK a = pow (254 - up K) := by
  obtain ⟨K, hK5, hK⟩ := exists_field (ratio a) (ratio_nonneg ha)
  refine ⟨K, hK5, hK, ?_⟩
  obtain ⟨i1, i2, i3⟩ := int_facts ⟨K, by omega⟩
  have hz : a = 0 → K = 0 := by
    rintro rfl
    by_contra h
    have := (hK 1 (by omega)).2 (by omega)
    rw [pow_pos_real (by omega) (by omega)] at this
    have e : ratio (0 : EReal) = 0 := zero_mul _
    rw [e] at this
    have h2 : (2 : ℝ) ^ (((1 : ℕ) : ℤ) - 127) ≤ 0 := by exact_mod_cast this
    exact absurd h2 (not_le.2 (by positivity))
  have hx : expo a (field (ratio a)) = Scalar.select (IntOp.ori (IntOp.cmpi .eq (BitVec.ofNat 32 K) 0#32) (IntOp.cmpi .eq (BitVec.ofNat 32 K) 255#32)) 0#32 (IntOp.subi (BitVec.ofNat 32 K) 126#32) := by
    unfold expo
    rw [field_spec _ K hK5 hK]
    by_cases h : a = 0
    · have := hz h
      subst this
      rw [show Scalar.select (IntOp.ori (IntOp.cmpi .eq (BitVec.ofNat 32 0) 0#32) (IntOp.cmpi .eq (BitVec.ofNat 32 0) 255#32)) 0#32
        (IntOp.subi (BitVec.ofNat 32 0) 126#32) = 0#32 by decide]
      exact ite_self _
    · have : FloatOps.cmpf (F := Ideal) (φ := .f32) .oeq a (FloatOps.ofBits (F := Ideal) .f32 0x00000000#32) = 0#1 := by
        show Ideal.cmp .oeq a (Ideal.ofBits .f32 0x00000000#32) = 0#1
        rw [Ideal.ofBits_zero_f32]
        unfold Ideal.cmp
        simp [h]
      rw [this]
      rfl
  unfold scaleK invK
  rw [hx]
  simp only [] at i1 i2 i3
  rw [i1, i2]
  exact ⟨bits_ofNat _ i3, bits_ofNat _ (by omega)⟩

/-! ## The reference's scale -/

/-- The `k`-th power the reference compares with: `2 ^ (k - 125)`. -/
def power (k : ℕ) : Ideal .f32 :=
  FloatOps.exp2 (F := Ideal) (φ := .f32)
    (FloatOps.subf (F := Ideal) (φ := .f32) (FloatOps.sitofp .f32 (BitVec.ofNat 32 k)) (FloatOps.ofBits (F := Ideal) .f32 0x42FA0000#32))

/-- The reference's candidate for the scale: the `k`-th power where it lies above the ratio. -/
def cand (t : Ideal .f32) (k : Fin 253) : Ideal .f32 :=
  Scalar.select (FloatOps.cmpf (F := Ideal) (φ := .f32) .ogt (power k.val) t) (power k.val) (FloatOps.ofBits (F := Ideal) .f32 0x7F800000#32)

/-- The reference's scale of a row of maximum `a`. -/
def scaleR (a : Ideal .f32) : Ideal .f32 :=
  Scalar.select (IntOp.ori (FloatOps.cmpf (F := Ideal) (φ := .f32) .olt (ratio a) (FloatOps.ofBits (F := Ideal) .f32 0x00800000#32))
      (FloatOps.cmpf (F := Ideal) (φ := .f32) .oeq (ratio a) (FloatOps.ofBits (F := Ideal) .f32 0x7F800000#32)))
    (FloatOps.ofBits (F := Ideal) .f32 0x3F800000#32)
    ((Finset.univ : Finset (Fin 253)).fold min (FloatOps.ofBits (F := Ideal) .f32 0x7F800000#32 : EReal) (cand (ratio a)))

/-- The reference's inverse of a scale. -/
def invOf (s : Ideal .f32) : Ideal .f32 :=
  Scalar.select (FloatOps.cmpf (F := Ideal) (φ := .f32) .olt s (FloatOps.ofBits (F := Ideal) .f32 0x7F000000#32))
    (FloatOps.divf (FloatOps.ofBits (F := Ideal) .f32 0x3F800000#32) s) (FloatOps.ofBits (F := Ideal) .f32 0x00000000#32)

theorem const_eq (b : BitVec 32) (k : ℕ) (hk : k < 256) (h : IntOp.shli .vector (BitVec.ofNat 32 k) 23#32 = b) :
    (FloatOps.ofBits (F := Ideal) .f32 b : EReal) = pow k := by
  rw [← bits_ofNat k hk, ← h]; rfl

theorem inf_eq : (FloatOps.ofBits (F := Ideal) .f32 0x7F800000#32 : EReal) = ⊤ :=
  (const_eq _ 255 (by omega) (by decide)).trans (by simp [pow])

theorem c125 : (FloatOps.ofBits (F := Ideal) .f32 0x42FA0000#32 : EReal) = ((125 : ℝ) : EReal) := by
  show Ideal.ofBits .f32 0x42FA0000#32 = _
  simp [Ideal.ofBits, Ideal.ieee, -EReal.coe_mul]
  norm_num

theorem toInt_small : ∀ k : Fin 253, (BitVec.ofNat 32 k.val).toInt = (k.val : ℤ) := by decide +kernel

theorem power_eq (k : Fin 253) : power k.val = pow (k.val + 2) := by
  have e1 : (FloatOps.sitofp (F := Ideal) .f32 (BitVec.ofNat 32 k.val) : EReal) = (((k.val : ℤ) : ℝ) : EReal) := by
    show ((((BitVec.ofNat 32 k.val).toInt : ℝ)) : EReal) = _
    rw [toInt_small]
  have e2 : power k.val = Ideal.exp2 ((FloatOps.sitofp (F := Ideal) .f32 (BitVec.ofNat 32 k.val) : EReal) - (FloatOps.ofBits (F := Ideal) .f32 0x42FA0000#32 : EReal)) := rfl
  rw [e2, e1, c125, ← EReal.coe_sub, pow_pos_real (by omega) (by have := k.isLt; omega)]
  rw [← Real.rpow_intCast]
  show (((2 : ℝ) ^ (((k.val : ℤ) : ℝ) - 125) : ℝ) : EReal) = _
  congr 2
  push_cast
  ring

theorem pow_lt {a b : ℕ} (hab : a < b) (ha : 0 < a) (hb : b < 255) : pow a < pow b := by
  rw [pow_pos_real (by omega) (by omega), pow_pos_real (by omega) (by omega), EReal.coe_lt_coe_iff]
  exact zpow_lt_zpow_right₀ (by norm_num) (by omega)

theorem cmp_olt (x y : EReal) : FloatOps.cmpf (F := Ideal) (φ := .f32) .olt x y = BitVec.ofBool (decide (x < y)) := by
  show Ideal.cmp .olt x y = _
  unfold Ideal.cmp
  by_cases h : x < y <;> simp [h]

theorem cmp_ogt (x y : EReal) : FloatOps.cmpf (F := Ideal) (φ := .f32) .ogt x y = BitVec.ofBool (decide (y < x)) := by
  show Ideal.cmp .ogt x y = _
  unfold Ideal.cmp
  by_cases h : y < x <;> simp [h]

theorem cmp_oeq (x y : EReal) : FloatOps.cmpf (F := Ideal) (φ := .f32) .oeq x y = BitVec.ofBool (decide (x = y)) := by
  show Ideal.cmp .oeq x y = _
  unfold Ideal.cmp
  by_cases h : x = y <;> simp [h]

theorem cand_eq (t : EReal) (K : ℕ) (hK : ∀ k ≤ 255, pow k ≤ t ↔ k ≤ K) (k : Fin 253) :
    cand t k = if K < k.val + 2 then pow (k.val + 2) else ⊤ := by
  have hk := k.isLt
  unfold cand
  rw [power_eq, inf_eq, cmp_ogt]
  by_cases h : K < k.val + 2
  · have : t < pow (k.val + 2) := not_le.1 fun x => absurd ((hK _ (by omega)).1 x) (by omega)
    rw [if_pos h, decide_eq_true this]; rfl
  · have : ¬ t < pow (k.val + 2) := not_lt.2 ((hK _ (by omega)).2 (by omega))
    rw [if_neg h, decide_eq_false this]; rfl

theorem fold_cand (t : EReal) (K : ℕ) (h0 : 0 < K) (h4 : K ≤ 254) (hK : ∀ k ≤ 255, pow k ≤ t ↔ k ≤ K) :
    (Finset.univ : Finset (Fin 253)).fold min (⊤ : EReal) (cand t) = pow (K + 1) := by
  apply le_antisymm
  · by_cases h : K = 254
    · subst h; simp [pow]
    · refine (Finset.fold_min_le _).2 (Or.inr ⟨⟨K - 1, by omega⟩, Finset.mem_univ _, ?_⟩)
      rw [cand_eq t K hK, if_pos (by show K < K - 1 + 2; omega)]
      exact pow_mono (by show K - 1 + 2 ≤ K + 1; omega) (by omega)
  · refine (Finset.le_fold_min _).2 ⟨le_top, fun k _ => ?_⟩
    have hk := k.isLt
    rw [cand_eq t K hK]
    split_ifs with h
    · exact pow_mono (by omega) (by omega)
    · exact le_top

/-- The reference's scale, from the field of the ratio. -/
theorem scaleR_spec (a : EReal) (K : ℕ) (hK5 : K ≤ 255) (hK : ∀ k ≤ 255, pow k ≤ ratio a ↔ k ≤ K) : scaleR a = pow (up K) := by
  unfold scaleR
  rw [inf_eq, const_eq 0x00800000#32 1 (by omega) (by decide), const_eq 0x3F800000#32 127 (by omega) (by decide), cmp_olt, cmp_oeq]
  have c1 : ratio a < pow 1 ↔ K = 0 := by rw [← not_le, hK 1 (by omega)]; omega
  have c2 : ratio a = (⊤ : EReal) ↔ K = 255 := by
    rw [← top_le_iff, show (⊤ : EReal) = pow 255 by simp [pow], hK 255 (by omega)]; omega
  simp only [c1, c2]
  unfold up
  by_cases h0 : K = 0
  · subst h0; rfl
  by_cases h5 : K = 255
  · subst h5; rfl
  rw [decide_eq_false h0, decide_eq_false h5, if_neg (by omega), fold_cand _ K (by omega) (by omega) hK]
  rfl

/-- The inverse of a power of two the scale can be. -/
theorem invOf_pow (n : ℕ) (h0 : 0 < n) (h : n ≤ 255) : invOf (pow n) = pow (254 - n) := by
  unfold invOf
  rw [const_eq 0x7F000000#32 254 (by omega) (by decide), const_eq 0x3F800000#32 127 (by omega) (by decide),
    const_eq 0x00000000#32 0 (by omega) (by decide), cmp_olt]
  by_cases hn : n < 254
  · rw [decide_eq_true (pow_lt hn h0 (by omega))]
    show Ideal.div (pow 127) (pow n) = _
    unfold Ideal.div
    have hp : pow n ≠ 0 := by
      rw [pow_pos_real (by omega) (by omega)]
      exact_mod_cast (by positivity : (2 : ℝ) ^ ((n : ℤ) - 127) ≠ 0)
    rw [if_neg hp, pow_pos_real (by omega) (by omega), pow_pos_real (by omega) (by omega), pow_pos_real (by omega) (by omega),
      ← EReal.coe_inv, ← EReal.coe_mul, EReal.coe_eq_coe_iff, ← zpow_neg, ← zpow_add₀ (by norm_num)]
    congr 1
    omega
  · have : ¬ pow n < pow 254 := not_lt.2 (pow_mono (by omega) h)
    rw [decide_eq_false this]
    show pow 0 = _
    rw [show 254 - n = 0 by omega]

/-- The kernel's scale of a row is the reference's. -/
theorem scale_eq {a : EReal} (ha : 0 ≤ a) : scaleK a = scaleR a := by
  obtain ⟨K, h5, hK, e, _⟩ := kernel_spec ha
  rw [e, scaleR_spec a K h5 hK]

/-- The kernel's inverse scale of a row is the reference's. -/
theorem inv_eq {a : EReal} (ha : 0 ≤ a) : invK a = invOf (scaleR a) := by
  obtain ⟨K, h5, hK, _, e⟩ := kernel_spec ha
  have h := (int_facts ⟨K, by omega⟩).2.2
  rw [e, scaleR_spec a K h5 hK, invOf_pow _ (by unfold up; split_ifs <;> omega) (by simpa using Nat.lt_succ_iff.1 h)]

/-- A value times an inverse scale, clipped to the range of the codes and narrowed. -/
def code (v inv : Ideal .f32) : Ideal .fp8e4m3 :=
  FloatOps.truncf .fp8e4m3 (by decide) (FloatOps.minimumf (F := Ideal) (φ := .f32) (FloatOps.ofBits (F := Ideal) .f32 0x43E00000#32)
    (FloatOps.maximumf (F := Ideal) (φ := .f32) (FloatOps.ofBits (F := Ideal) .f32 0xC3E00000#32) (FloatOps.mulf v inv)))

/-- An absolute value is not negative. -/
theorem absf_nonneg (x : Ideal .f32) : (0 : EReal) ≤ FloatOps.absf (F := Ideal) (φ := .f32) x := by
  show (0 : EReal) ≤ max x (-x)
  rcases le_total (0 : EReal) x with h | h
  · exact h.trans (le_max_left _ _)
  · exact (EReal.neg_nonneg.2 h).trans (le_max_right _ _)

/-- One comparison of the search, at every row of a vector. -/
def vstep {s : Shape} (t : FVec Ideal s .f32) (f : IVec s 32) (b : BitVec 32) : IVec s 32 := fun i => step (t i) (f i) b

/-- The vector operations of one comparison are `vstep`. -/
theorem vstep_eq {s : Shape} (t : FVec Ideal s .f32) (f : IVec s 32) (b : BitVec 32) :
    select (cmpf .oge t (bitcastToFloat .f32 (shli (addi f (broadcast s b)) (broadcast s 23#32) : IVec s 32)))
      (addi f (broadcast s b)) f = vstep t f b := rfl

/-- The eight comparisons find the exponent field of every row. -/
theorem vfield_apply {s : Shape} (t : FVec Ideal s .f32) (i : s.Idx) :
    vstep t (vstep t (vstep t (vstep t (vstep t (vstep t (vstep t (vstep t (broadcast s 0#32) 128#32) 64#32) 32#32) 16#32) 8#32)
      4#32) 2#32) 1#32 i = field (t i) := by
  simp only [vstep, field]
  rfl

/-- The row maxima times 1/448, read at a row. -/
theorem ratio_apply {s : Shape} (a : FVec Ideal s .f32) (i : s.Idx) :
    mulf a (broadcast s (Scalar.ofBits FTy.f32 0x3B124925#32)) i = ratio (a i) := rfl

/-- The exponent as the kernel selects it, read at a row. -/
theorem expo_apply {s : Shape} (a : FVec Ideal s .f32) (f : IVec s 32) (i : s.Idx) :
    select (cmpf .oeq a (broadcast s (Scalar.ofBits FTy.f32 0x00000000#32))) (broadcast s 0#32)
      (select (ori (cmpi .eq f (broadcast s 0#32)) (cmpi .eq f (broadcast s 255#32))) (broadcast s 0#32)
        (subi f (broadcast s 126#32)) : IVec s 32) i = expo (a i) (f i) := rfl

/-- The scale from the exponents, read at a row. -/
theorem scale_of_expo {s : Shape} (e : IVec s 32) (i : s.Idx) :
    (bitcastToFloat .f32 (shli (addi (broadcast s 127#32) e) (broadcast s 23#32) : IVec s 32) : FVec Ideal s .f32) i
      = bits (IntOp.addi 127#32 (e i)) := rfl

/-- The inverse scale from the exponents, read at a row. -/
theorem inv_of_expo {s : Shape} (e : IVec s 32) (i : s.Idx) :
    (bitcastToFloat .f32 (shli (maxsi (subi (broadcast s 127#32) e) (broadcast s 0#32)) (broadcast s 23#32) : IVec s 32)
      : FVec Ideal s .f32) i = bits (IntOp.maxsi (IntOp.subi 127#32 (e i)) 0#32) := rfl

end Cert.Quant
-- ==== Proof.QuantX.lean ====
module

public import proofs.«01_k».proof.Proof.Quant
public import proofs.«01_k».proof.Proof.Gen.QuantXIdeal.Value
public import Idealize.ShloMosaic.Lib.Pointwise
public import Idealize.ShloMosaic.Lib.Pipeline.ValueKit

@[expose] public section

set_option maxRecDepth 16384

noncomputable section

namespace Cert.QuantRows

open Idealize.ShloMosaic Idealize.ShloMosaic.TcCoe

/-- The largest magnitude of row `r`. -/
def rowMax {n : ℕ} (X : (⟨2, ![n, 16384]⟩ : Shape).Idx → Ideal .bf16) (r : Fin n) : EReal :=
  (Finset.univ : Finset (Fin 16384)).fold max (FloatOps.ofBits (F := Ideal) .f32 0xFF800000#32 : EReal)
    fun k => FloatOps.absf (F := Ideal) (φ := .f32) (FloatOps.extf .f32 (by decide) (X (ix2 r k)))

theorem rowMax_nonneg {n : ℕ} (X : (⟨2, ![n, 16384]⟩ : Shape).Idx → Ideal .bf16) (r : Fin n) : 0 ≤ rowMax X r :=
  (Finset.le_fold_max _).2 (Or.inr ⟨⟨0, by omega⟩, Finset.mem_univ _, Cert.Quant.absf_nonneg _⟩)

/-- The scales of the rows of `X`, one per row. -/
def scales {n : ℕ} (X : (⟨2, ![n, 16384]⟩ : Shape).Idx → Ideal .bf16) : (⟨2, ![n, 1]⟩ : Shape).Idx → Ideal .f32 :=
  fun j => Cert.Quant.scaleR (rowMax X (j 0))

/-- The codes of `X`. -/
def codes {n : ℕ} (X : (⟨2, ![n, 16384]⟩ : Shape).Idx → Ideal .bf16) :
    (⟨2, ![n, 16384]⟩ : Shape).Idx → Ideal .fp8e4m3 :=
  fun j => Cert.Quant.code (FloatOps.extf .f32 (by decide) (X j)) (Cert.Quant.invOf (Cert.Quant.scaleR (rowMax X (j 0))))

theorem hz : (![0, 0] : Fin 2 → Nat) = fun _ => 0 := funext fun a => by fin_cases a <;> rfl

end Cert.QuantRows

/-! ## The kernel -/

namespace Cert.QuantXIdeal.RefValue

open Cert.QuantXIdeal Cert.QuantXIdeal.Gen Cert.QuantRows Cert.Quant Idealize.ShloMosaic Idealize.ShloMosaic.TcCoe Idealize.SL.Sem
open Idealize.ShloMosaic.Pipeline (Dat)

/-- The row maxima of a block. -/
theorem pay4_apply (x : Vec Ideal S128x16384 .bf16) (r : Fin 128) (z : Fin 1) : k0_pay4 x (ix2 r z) = rowMax x r := by
  pointwise [k0_pay4, rowMax]

theorem pay5_apply (x : Vec Ideal S128x16384 .bf16) (i : S128x1.Idx) : k0_pay5 x i = ratio (k0_pay4 x i) := by
  unfold k0_pay5
  exact ratio_apply _ i

/-- The first three comparisons. -/
theorem pay6_eq (x : Vec Ideal S128x16384 .bf16) :
    k0_pay6 x = vstep (k0_pay5 x) (vstep (k0_pay5 x) (vstep (k0_pay5 x) (broadcast S128x1 0#32) 128#32) 64#32) 32#32 := by
  unfold k0_pay6
  generalize k0_pay5 x = t
  dsimp only
  rw [vstep_eq, vstep_eq, vstep_eq]

/-- The last five comparisons. -/
theorem pay8_eq (t : FVec Ideal S128x1 .f32) (v35 : IVec S128x1 32) :
    k0_pay8 t v35 (cmpf .oge t (bitcastToFloat .f32 (shli (addi v35 (broadcast S128x1 16#32)) (broadcast S128x1 23#32) : IVec S128x1 32)))
      16#32 = vstep t (vstep t (vstep t (vstep t (vstep t v35 16#32) 8#32) 4#32) 2#32) 1#32 := by
  unfold k0_pay8
  dsimp only
  rw [vstep_eq, vstep_eq, vstep_eq, vstep_eq, vstep_eq]

/-- All eight comparisons: the exponent field of every row. -/
theorem search_eq (x : Vec Ideal S128x16384 .bf16) :
    k0_pay8 (k0_pay5 x) (k0_pay6 x) (k0_pay7 x) 16#32 = fun i => field (k0_pay5 x i) := by
  unfold k0_pay7
  dsimp only
  rw [pay8_eq, pay6_eq]
  funext i
  exact vfield_apply _ i

/-- The exponents of the rows. -/
theorem pay1_apply (a : FVec Ideal S128x1 .f32) (f : IVec S128x1 32) (i : S128x1.Idx) :
    k0_pay1 a f (ori (cmpi .eq f (broadcast S128x1 0#32)) (cmpi .eq f (broadcast S128x1 255#32))) k0_pay10 i = expo (a i) (f i) := by
  unfold k0_pay1 k0_pay10
  exact expo_apply a f i

/-- What a point writes to the block of scales. -/
theorem scale_apply (x : Vec Ideal S128x16384 .bf16) (r : Fin 128) (z : Fin 1) :
    out0_2 x (ix2 r z) = scaleK (rowMax x r) := by
  unfold out0_2
  rw [View.canon_unit_zero hz]
  unfold k0_pay11 k0_pay15 k0_pay16 k0_pay17 k0_pay12 k0_pay13 k0_pay14 k0_pay9
  rw [View.ld_unit_zero hz, search_eq, ← pay4_apply x r z]
  dsimp only
  unfold k0_pay2
  refine (scale_of_expo _ _).trans ?_
  rw [pay1_apply, pay5_apply]
  rfl

/-- What a point writes to the block of codes. -/
theorem codes_apply (x : Vec Ideal S128x16384 .bf16) (r : Fin 128) (k : Fin 16384) :
    out0_1 x (ix2 r k) = code (FloatOps.extf .f32 bitsLt_bf16_f32 (x (ix2 r k))) (invK (rowMax x r)) := by
  unfold out0_1
  rw [View.canon_unit_zero hz]
  unfold k0_pay11 k0_pay15 k0_pay16 k0_pay17 k0_pay12 k0_pay13 k0_pay14 k0_pay9
  rw [View.ld_unit_zero hz, search_eq]
  dsimp only
  unfold k0_pay3
  have e : ∀ z, (bitcastToFloat .f32 (shli (maxsi (subi (broadcast S128x1 127#32)
      (k0_pay1 (k0_pay4 x) (fun i => field (k0_pay5 x i)) (ori (cmpi .eq (fun i => field (k0_pay5 x i)) (broadcast S128x1 0#32))
        (cmpi .eq (fun i => field (k0_pay5 x i)) (broadcast S128x1 255#32))) k0_pay10)) (broadcast S128x1 0#32))
      (broadcast S128x1 23#32) : IVec S128x1 32) : FVec Ideal S128x1 .f32) (ix2 r z) = invK (rowMax x r) := by
    intro z
    refine (inv_of_expo _ _).trans ?_
    rw [pay1_apply, pay5_apply, pay4_apply]
    rfl
  generalize (bitcastToFloat .f32 _ : FVec Ideal S128x1 .f32) = v at e ⊢
  pointwise [code]
  rw [e]

variable (m : (ℓ : Loc nD τ sig) → Buf (Elt Ideal) ℓ) (ρ : Dev nD → PrngReg)

theorem idx : ∀ t : Fin cfg0.N, win0_0.index t = ![t.val, 0] ∧ win0_1.index t = ![t.val, 0] ∧ win0_2.index t = ![t.val, 0] :=
  (by decide +kernel : ∀ t : Fin grid0.N, _)

/-- A block's rows are the array's. -/
theorem iblk_apply (c : Dev nD) (t : Fin cfg0.N) (r : Fin 128) (k : Fin 16384) (R : Fin 3072) (h : R.val = t.val * 128 + r.val) :
    (iblk m c 0 t : Vec Ideal S128x16384 .bf16) (ix2 r k) = V m c main_v0 (ix2 R k) := by
  blk_ext [iblk, idx t]

/-- A block's row maxima are the array's. -/
theorem rowMax_blk (c : Dev nD) (t : Fin cfg0.N) (r : Fin 128) (R : Fin 3072) (h : R.val = t.val * 128 + r.val) :
    rowMax (n := 128) (iblk m c 0 t) r = rowMax (n := 3072) (V m c main_v0) R := by
  unfold rowMax
  refine congrArg (fun f => Finset.fold max _ f Finset.univ) (funext fun k => ?_)
  exact congrArg (fun v : Ideal .bf16 => FloatOps.absf (F := Ideal) (φ := .f32) (FloatOps.extf .f32 (by decide) v)) (iblk_apply m c t r k R h)

/-- The array of scales after the run. -/
theorem final2 (c : Dev nD) : (dats m 0 c).arrAt 2 cfg0.N = scales (n := 3072) (V m c main_v0) := by
  refine (dats m 0 c).arrAt_eq_of_covers 2 _ (by decide +kernel) fun t hf y => ?_
  blk_simp
  rw [after0_2]
  idx_vars y
  have hN : cfg0.N = 24 := N_0
  have hr : t.val * 128 + y0.val < 3072 := by have : t.val < cfg0.N := t.isLt; omega
  have e : ((View.whole main_v1_1).slice (win0_2.rect t)).emb (ix2 y0 y1) = ix2 (⟨t.val * 128 + y0.val, hr⟩ : Fin 3072) y1 := by
    blk_ext [idx t]
  rw [e, scale_apply, rowMax_blk m c t y0 ⟨_, hr⟩ rfl, Cert.Quant.scale_eq (rowMax_nonneg _ _)]
  rfl

/-- The array of codes after the run. -/
theorem final1 (c : Dev nD) : (dats m 0 c).arrAt 1 cfg0.N = codes (n := 3072) (V m c main_v0) := by
  refine (dats m 0 c).arrAt_eq_of_covers 1 _ (by decide +kernel) fun t hf y => ?_
  blk_simp
  rw [after0_1]
  idx_vars y
  have hN : cfg0.N = 24 := N_0
  have hr : t.val * 128 + y0.val < 3072 := by have : t.val < cfg0.N := t.isLt; omega
  have e : ((View.whole main_v1_0).slice (win0_1.rect t)).emb (ix2 y0 y1) = ix2 (⟨t.val * 128 + y0.val, hr⟩ : Fin 3072) y1 := by
    blk_ext [idx t]
  rw [e, codes_apply, rowMax_blk m c t y0 ⟨_, hr⟩ rfl, Cert.Quant.inv_eq (rowMax_nonneg _ _)]
  exact congrArg (fun v : Ideal .bf16 => code (FloatOps.extf .f32 bitsLt_bf16_f32 v) _) (iblk_apply m c t y0 y1 ⟨_, hr⟩ rfl)

/-- The run: both results, and the argument unchanged. -/
theorem run : θ_run defs (onTc (τ := τ) (main (F := Ideal))) ⟨m, fun _ => 0, ρ⟩ fun r => ∀ c : Dev nD,
      r.2.mem ((c : Thread nD τ).loc main_v1_0) = codes (n := 3072) (V m c main_v0)
      ∧ r.2.mem ((c : Thread nD τ).loc main_v1_1) = scales (n := 3072) (V m c main_v0)
      ∧ r.2.mem ((c : Thread nD τ).loc main_arg0) = m ((c : Thread nD τ).loc main_arg0) :=
  (θ_run defs _ _).mono (fun _ h c => ⟨(h c).1.trans (final1 m c), (h c).2.1.trans (final2 m c), (h c).2.2⟩)
    (Value.run_blocks m ρ)

end Cert.QuantXIdeal.RefValue
-- ==== Proof.QuantRef.lean ====
module

public import proofs.«01_k».proof.Proof.QuantX
public import proofs.«01_k».proof.Proof.Gen.QuantRefIdeal.Value
public import Idealize.ShloMosaic.Lib.Pointwise
public import Idealize.ShloMosaic.Lib.Pipeline.ValueKit

@[expose] public section

set_option maxRecDepth 16384

noncomputable section

namespace Cert.Quant

open Idealize.ShloMosaic Idealize.ShloMosaic.TcCoe

/-- The powers of two that the reference chooses from. -/
theorem powers_apply (h) (r : Fin 3072) (k : Fin 253) :
    exp2 (subf (sitofp .f32 (iota .tc ⟨2, ![3072, 253]⟩ 32 [1] h))
      (broadcast ⟨2, ![3072, 253]⟩ (Scalar.ofBits .f32 0x42FA0000#32) : FVec Ideal ⟨2, ![3072, 253]⟩ .f32)) (ix2 r k) = power k.val := by
  pointwise [power]

/-- The least of the powers above a row's `t`. -/
theorem least_apply (P : FVec Ideal ⟨2, ![3072, 253]⟩ .f32) (t : FVec Ideal ⟨2, ![3072, 1]⟩ .f32) (h1 h2 h3 h4 h5) (r : Fin 3072) (z : Fin 1)
    (hP : ∀ k, P (ix2 r k) = power k.val) :
    shapeCast ⟨2, ![3072, 1]⟩ (multiReduction .minimumf [1] ⟨1, ![3072]⟩ (select (cmpf .ogt P (broadcastTo ⟨2, ![3072, 253]⟩ t h1)) P
      (broadcast ⟨2, ![3072, 253]⟩ (Scalar.ofBits .f32 0x7F800000#32))) 0x7F800000#32 h2 h3 h4) h5 (ix2 r z)
    = (Finset.univ : Finset (Fin 253)).fold min (FloatOps.ofBits (F := Ideal) .f32 0x7F800000#32 : EReal) (cand (t (ix2 r 0))) := by
  pointwise []
  refine congrArg (fun f => Finset.fold min (Ideal.ofBits FTy.f32 2139095040#32 : EReal) f Finset.univ) (funext fun k => ?_)
  rw [hP]
  unfold cand
  pointwise []

/-- The reference's scales from the row maxima `a`. -/
theorem scaleR_apply (a : FVec Ideal ⟨2, ![3072, 1]⟩ .f32) (h0 h1 h2 h3 h4 h5) (r : Fin 3072) (z : Fin 1) :
    select (ori (cmpf .olt (mulf a (broadcast ⟨2, ![3072, 1]⟩ (Scalar.ofBits .f32 0x3B124925#32)))
          (broadcast ⟨2, ![3072, 1]⟩ (Scalar.ofBits .f32 0x00800000#32)))
        (cmpf .oeq (mulf a (broadcast ⟨2, ![3072, 1]⟩ (Scalar.ofBits .f32 0x3B124925#32)))
          (broadcast ⟨2, ![3072, 1]⟩ (Scalar.ofBits .f32 0x7F800000#32))))
      (broadcast ⟨2, ![3072, 1]⟩ (Scalar.ofBits .f32 0x3F800000#32))
      (shapeCast ⟨2, ![3072, 1]⟩ (multiReduction .minimumf [1] ⟨1, ![3072]⟩
        (select (cmpf .ogt (exp2 (subf (sitofp .f32 (iota .tc ⟨2, ![3072, 253]⟩ 32 [1] h0))
            (broadcast ⟨2, ![3072, 253]⟩ (Scalar.ofBits .f32 0x42FA0000#32) : FVec Ideal ⟨2, ![3072, 253]⟩ .f32)))
          (broadcastTo ⟨2, ![3072, 253]⟩ (mulf a (broadcast ⟨2, ![3072, 1]⟩ (Scalar.ofBits .f32 0x3B124925#32))) h1))
          (exp2 (subf (sitofp .f32 (iota .tc ⟨2, ![3072, 253]⟩ 32 [1] h0))
            (broadcast ⟨2, ![3072, 253]⟩ (Scalar.ofBits .f32 0x42FA0000#32) : FVec Ideal ⟨2, ![3072, 253]⟩ .f32)))
          (broadcast ⟨2, ![3072, 253]⟩ (Scalar.ofBits .f32 0x7F800000#32))) 0x7F800000#32 h2 h3 h4) h5) (ix2 r z) = scaleR (a (ix2 r z)) := by
  have hP (k) := powers_apply h0 r k
  generalize exp2 (subf (sitofp .f32 (iota .tc ⟨2, ![3072, 253]⟩ 32 [1] h0))
    (broadcast ⟨2, ![3072, 253]⟩ (Scalar.ofBits .f32 0x42FA0000#32) : FVec Ideal ⟨2, ![3072, 253]⟩ .f32)) = P at hP ⊢
  have hz : z = 0 := Subsingleton.elim _ _
  subst hz
  have hl := least_apply P (mulf a (broadcast ⟨2, ![3072, 1]⟩ (Scalar.ofBits .f32 0x3B124925#32))) h1 h2 h3 h4 h5 r 0 hP
  generalize shapeCast ⟨2, ![3072, 1]⟩ _ h5 = L at hl ⊢
  unfold scaleR
  rw [ratio_apply] at hl
  rw [← hl]
  rfl

/-- The reference's inverse of a scale. -/
theorem invOf_apply (s : FVec Ideal ⟨2, ![3072, 1]⟩ .f32) (i) :
    select (cmpf .olt s (broadcast ⟨2, ![3072, 1]⟩ (Scalar.ofBits .f32 0x7F000000#32)))
      (divf (broadcast ⟨2, ![3072, 1]⟩ (Scalar.ofBits .f32 0x3F800000#32)) s)
      (broadcast ⟨2, ![3072, 1]⟩ (Scalar.ofBits .f32 0x00000000#32)) i = invOf (s i) := rfl

end Cert.Quant

/-! ## The reference -/

namespace Cert.QuantRefIdeal.RefValue

open Cert.QuantRefIdeal Cert.QuantRefIdeal.Gen Cert.QuantRows Cert.Quant Idealize.ShloMosaic Idealize.ShloMosaic.TcCoe Idealize.SL.Sem
open Idealize.ShloMosaic.Pipeline (Dat)

/-- The reference's scales. -/
theorem pay2_apply (x : Vec Ideal S3072x16384 .bf16) (r : Fin 3072) (z : Fin 1) : k0_pay2 x (ix2 r z) = scaleR (rowMax x r) := by
  have e : shapeCast S3072x1 (multiReduction .maximumf [1] S3072 (absf (k0_pay1 x)) 0xFF800000#32 reduces_S3072x16384_S3072 (.inl rfl) rfl)
      shapeCasts_S3072_S3072x1 (ix2 r z) = rowMax x r := by
    pointwise [k0_pay1, rowMax]
  unfold k0_pay2
  dsimp only
  generalize shapeCast S3072x1 (multiReduction .maximumf [1] S3072 (absf (k0_pay1 x)) 0xFF800000#32 reduces_S3072x16384_S3072 (.inl rfl) rfl)
      shapeCasts_S3072_S3072x1 = a at e ⊢
  exact (scaleR_apply a _ _ _ _ _ _ r z).trans (congrArg scaleR e)

/-- The reference's codes. -/
theorem pay3_apply (x : Vec Ideal S3072x16384 .bf16) (r : Fin 3072) (k : Fin 16384) :
    k0_pay3 x (ix2 r k) = code (FloatOps.extf .f32 bitsLt_bf16_f32 (x (ix2 r k))) (invOf (scaleR (rowMax x r))) := by
  have e (z) := pay2_apply x r z
  unfold k0_pay3
  generalize k0_pay2 x = s at e ⊢
  have e' (z) := (invOf_apply s (ix2 r z)).trans (congrArg invOf (e z))
  generalize select (cmpf .olt s _) _ _ = v at e' ⊢
  pointwise [k0_pay1, code]
  rw [e']

variable (m : (ℓ : Loc nD τ sig) → Buf (Elt Ideal) ℓ) (ρ : Dev nD → PrngReg)

theorem idx : ∀ t : Fin cfg0.N, win0_0.index t = ![0, 0] ∧ win0_1.index t = ![0, 0] ∧ win0_2.index t = ![0, 0] :=
  (by decide +kernel : ∀ t : Fin grid0.N, _)

/-- The one block is the whole array. -/
theorem iblk_eq (c : Dev nD) (t : Fin cfg0.N) : (iblk m c 0 t : Vec Ideal S3072x16384 .bf16) = V m c main_v0 := by
  funext y
  blk_ext [iblk, idx t]

/-- The array of scales after the run. -/
theorem final2 (c : Dev nD) : (dats m 0 c).arrAt 2 cfg0.N = scales (n := 3072) (V m c main_v0) := by
  refine (dats m 0 c).arrAt_eq_of_covers 2 _ (by decide +kernel) fun t hf y => ?_
  blk_simp
  rw [after0_2]
  idx_vars y
  have e : ((View.whole main_v1_1).slice (win0_2.rect t)).emb (ix2 y0 y1) = ix2 y0 y1 := by
    blk_ext [idx t]
  unfold out0_2
  rw [e, View.canon_unit_zero hz, View.ld_unit_zero hz, pay2_apply, iblk_eq]
  rfl

/-- The array of codes after the run. -/
theorem final1 (c : Dev nD) : (dats m 0 c).arrAt 1 cfg0.N = codes (n := 3072) (V m c main_v0) := by
  refine (dats m 0 c).arrAt_eq_of_covers 1 _ (by decide +kernel) fun t hf y => ?_
  blk_simp
  rw [after0_1]
  idx_vars y
  have e : ((View.whole main_v1_0).slice (win0_1.rect t)).emb (ix2 y0 y1) = ix2 y0 y1 := by
    blk_ext [idx t]
  unfold out0_1
  rw [e, View.canon_unit_zero hz, View.ld_unit_zero hz, pay3_apply, iblk_eq]
  rfl

/-- The run: both results, and the argument unchanged. -/
theorem run : θ_run defs (onTc (τ := τ) (main (F := Ideal))) ⟨m, fun _ => 0, ρ⟩ fun r => ∀ c : Dev nD,
      r.2.mem ((c : Thread nD τ).loc main_v1_0) = codes (n := 3072) (V m c main_v0)
      ∧ r.2.mem ((c : Thread nD τ).loc main_v1_1) = scales (n := 3072) (V m c main_v0)
      ∧ r.2.mem ((c : Thread nD τ).loc main_arg0) = m ((c : Thread nD τ).loc main_arg0) :=
  (θ_run defs _ _).mono (fun _ h c => ⟨(h c).1.trans (final1 m c), (h c).2.1.trans (final2 m c), (h c).2.2⟩)
    (Value.run_blocks m ρ)

end Cert.QuantRefIdeal.RefValue
-- ==== Proof.GateSpec.lean ====
module

public import proofs.«01_k».proof.Proof.Quant
public import Idealize.ShloMosaic.Lib.Pointwise
public import Idealize.ShloMosaic.Lib.Pipeline.ValueKit

@[expose] public section

set_option maxRecDepth 16384

noncomputable section

/-! ## The gate-up product, its activation and its rows' scales and codes, as functions of the four arrays -/

namespace Cert.GateRows

open Idealize.ShloMosaic Idealize.ShloMosaic.TcCoe

/-- Entry `(r, n)` of the product of `X` and `W`. -/
def dot {M N : ℕ} (X : (⟨2, ![M, 16384]⟩ : Shape).Idx → Ideal .fp8e4m3) (W : (⟨2, ![16384, N]⟩ : Shape).Idx → Ideal .fp8e4m3)
    (r : Fin M) (n : Fin N) : Ideal .f32 :=
  (∑ k : Fin 16384, X (ix2 r k) * W (ix2 k n) : EReal)

/-- `silu` of the gate times the up value: the gate and up products, the row's scale, the two columns' scales. -/
def act (g u s wg wu : Ideal .f32) : Ideal .f32 :=
  FloatOps.mulf (FloatOps.mulf (FloatOps.mulf (FloatOps.mulf g s) wg) (FloatOps.logistic (FloatOps.mulf (FloatOps.mulf g s) wg)))
    (FloatOps.mulf (FloatOps.mulf u s) wu)

variable (X : (⟨2, ![3072, 16384]⟩ : Shape).Idx → Ideal .fp8e4m3) (S : (⟨2, ![3072, 1]⟩ : Shape).Idx → Ideal .f32)
  (W : (⟨2, ![16384, 13312]⟩ : Shape).Idx → Ideal .fp8e4m3) (V : (⟨2, ![1, 13312]⟩ : Shape).Idx → Ideal .f32)

/-- A gate column of `W`. -/
def lo (c : Fin 6656) : Fin 13312 := ⟨c.val, by omega⟩

/-- The up column that goes with it. -/
def hi (c : Fin 6656) : Fin 13312 := ⟨6656 + c.val, by omega⟩

/-- Entry `(r, c)` of `h`. -/
def entry (r : Fin 3072) (c : Fin 6656) : Ideal .f32 :=
  act (dot X W r (lo c)) (dot X W r (hi c)) (S (ix2 r 0)) (V (ix2 0 (lo c))) (V (ix2 0 (hi c)))

/-- The largest magnitude of row `r` of `h`. -/
def rowMax (r : Fin 3072) : EReal :=
  (Finset.univ : Finset (Fin 6656)).fold max (FloatOps.ofBits (F := Ideal) .f32 0xFF800000#32 : EReal)
    fun c => FloatOps.absf (F := Ideal) (φ := .f32) (entry X S W V r c)

theorem rowMax_nonneg (r : Fin 3072) : 0 ≤ rowMax X S W V r :=
  (Finset.le_fold_max _).2 (Or.inr ⟨⟨0, by omega⟩, Finset.mem_univ _, Cert.Quant.absf_nonneg _⟩)

/-- The scales of the rows of `h`. -/
def scales : (⟨2, ![3072, 1]⟩ : Shape).Idx → Ideal .f32 := fun j => Cert.Quant.scaleR (rowMax X S W V (j 0))

/-- The codes of `h`. -/
def codes : (⟨2, ![3072, 6656]⟩ : Shape).Idx → Ideal .fp8e4m3 :=
  fun j => Cert.Quant.code (entry X S W V (j 0) (j 1)) (Cert.Quant.invOf (Cert.Quant.scaleR (rowMax X S W V (j 0))))

theorem hz : (![0, 0] : Fin 2 → Nat) = fun _ => 0 := funext fun a => by fin_cases a <;> rfl

end Cert.GateRows
-- ==== Proof.GateRef.lean ====
module

public import proofs.«01_k».proof.Proof.GateSpec
public import proofs.«01_k».proof.Proof.QuantRef
public import proofs.«01_k».proof.Proof.Gen.GateRefIdeal.Value

@[expose] public section

set_option maxRecDepth 16384

noncomputable section

/-! ## The reference of the gate-up call -/

namespace Cert.GateRefIdeal.RefValue

open Cert.GateRefIdeal Cert.GateRefIdeal.Gen Cert.GateRows Cert.Quant Idealize.ShloMosaic Idealize.ShloMosaic.TcCoe Idealize.SL.Sem
open Idealize.ShloMosaic.Pipeline (Dat)

variable (x : Vec Ideal S3072x16384 .fp8e4m3) (w : Vec Ideal S16384x13312 .fp8e4m3) (s : Vec Ideal S3072x1 .f32) (v : Vec Ideal S1x13312 .f32)

/-- The product of the codes and the weights. -/
theorem prod_apply (r : Fin 3072) (n : Fin 13312) :
    (matmul (φ₁ := .fp8e4m3) (φ₂ := .fp8e4m3) dot_S3072x16384_S16384x13312_S3072x13312_1_0_0_1_n_n none x w (constant S3072x13312 .f32 0x00000000#32) : FVec Ideal S3072x13312 .f32) (ix2 r n)
      = dot x w r n := by
  pointwise [dot]

/-- The reference's `h`. -/
theorem pay2_apply (r : Fin 3072) (c : Fin 6656) : k0_pay2 x w s v (ix2 r c) = entry x s w v r c := by
  have e := prod_apply x w
  unfold k0_pay2
  generalize matmul (F := Ideal) (φ₁ := .fp8e4m3) (φ₂ := .fp8e4m3) dot_S3072x16384_S16384x13312_S3072x13312_1_0_0_1_n_n none x w (constant S3072x13312 .f32 0x00000000#32) = p at e ⊢
  unfold entry act
  rw [← e, ← e]
  pointwise [lo, hi]

/-- The reference's row maxima. -/
theorem max_apply (r : Fin 3072) (z : Fin 1) :
    shapeCast S3072x1 (multiReduction .maximumf [1] S3072 (absf (k0_pay2 x w s v)) 0xFF800000#32 reduces_S3072x6656_S3072 (.inl rfl) rfl)
      shapeCasts_S3072_S3072x1 (ix2 r z) = rowMax x s w v r := by
  have e := pay2_apply x w s v r
  generalize k0_pay2 x w s v = h at e ⊢
  pointwise []
  unfold rowMax
  refine congrArg (fun f => Finset.fold max _ f Finset.univ) (funext fun k => ?_)
  exact congrArg (FloatOps.absf (F := Ideal) (φ := .f32)) (e k)

/-- The reference's scales. -/
theorem pay3_apply (r : Fin 3072) (z : Fin 1) : k0_pay3 x w s v (ix2 r z) = scaleR (rowMax x s w v r) := by
  have e := max_apply x w s v r z
  unfold k0_pay3
  dsimp only
  generalize shapeCast S3072x1 (multiReduction .maximumf [1] S3072 (absf (k0_pay2 x w s v)) 0xFF800000#32 reduces_S3072x6656_S3072 (.inl rfl) rfl)
      shapeCasts_S3072_S3072x1 = a at e ⊢
  exact (scaleR_apply a _ _ _ _ _ _ r z).trans (congrArg scaleR e)

/-- The reference's codes. -/
theorem codes_apply (r : Fin 3072) (c : Fin 6656) :
    k0_pay1 (k0_pay2 x w s v) (k0_pay3 x w s v) (k0_pay4 x w s v) k0_pay5 (ix2 r c)
      = code (entry x s w v r c) (invOf (scaleR (rowMax x s w v r))) := by
  have e (z) := pay3_apply x w s v r z
  have eh := pay2_apply x w s v r c
  unfold k0_pay1 k0_pay4 k0_pay5
  dsimp only
  generalize k0_pay3 x w s v = a at e ⊢
  generalize k0_pay2 x w s v = h at eh ⊢
  have e' (z) := (invOf_apply a (ix2 r z)).trans (congrArg invOf (e z))
  generalize select (cmpf .olt a _) _ _ = u at e' ⊢
  pointwise [code]
  rw [e', eh]

variable (m : (ℓ : Loc nD τ sig) → Buf (Elt Ideal) ℓ) (ρ : Dev nD → PrngReg)

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] :=
  (by decide +kernel : ∀ t : Fin grid0.N, _)

/-- Each window's one block is its whole array. -/
theorem iblk0_eq (c : Dev nD) (t : Fin cfg0.N) : (iblk m c 0 t : Vec Ideal S3072x16384 .fp8e4m3) = V m c main_arg0 := by
  funext y
  blk_ext [iblk, idx t]
theorem iblk1_eq (c : Dev nD) (t : Fin cfg0.N) : (iblk m c 1 t : Vec Ideal S3072x1 .f32) = V m c main_arg1 := by
  funext y
  blk_ext [iblk, idx t]
theorem iblk2_eq (c : Dev nD) (t : Fin cfg0.N) : (iblk m c 2 t : Vec Ideal S16384x13312 .fp8e4m3) = V m c main_arg2 := by
  funext y
  blk_ext [iblk, idx t]
theorem iblk3_eq (c : Dev nD) (t : Fin cfg0.N) : (iblk m c 3 t : Vec Ideal S1x13312 .f32) = V m c main_v0 := by
  funext y
  blk_ext [iblk, idx t]

/-- The array of scales after the run. -/
theorem final5 (c : Dev nD) :
    (dats m 0 c).arrAt 5 cfg0.N = scales (V m c main_arg0) (V m c main_arg1) (V m c main_arg2) (V m c main_v0) := by
  refine (dats m 0 c).arrAt_eq_of_covers 5 _ (by decide +kernel) fun t hf y => ?_
  blk_simp
  rw [after0_5]
  idx_vars y
  have e : ((View.whole main_v1_1).slice (win0_5.rect t)).emb (ix2 y0 y1) = ix2 y0 y1 := by
    blk_ext [idx t]
  unfold out0_5
  rw [e, View.canon_unit_zero hz]
  unfold k0_pay6
  rw [View.ld_unit_zero hz, View.ld_unit_zero hz, View.ld_unit_zero hz, View.ld_unit_zero hz, pay3_apply,
    iblk0_eq, iblk1_eq, iblk2_eq, iblk3_eq]
  rfl

/-- The array of codes after the run. -/
theorem final4 (c : Dev nD) :
    (dats m 0 c).arrAt 4 cfg0.N = codes (V m c main_arg0) (V m c main_arg1) (V m c main_arg2) (V m c main_v0) := by
  refine (dats m 0 c).arrAt_eq_of_covers 4 _ (by decide +kernel) fun t hf y => ?_
  blk_simp
  rw [after0_4]
  idx_vars y
  have e : ((View.whole main_v1_0).slice (win0_4.rect t)).emb (ix2 y0 y1) = ix2 y0 y1 := by
    blk_ext [idx t]
  unfold out0_4
  rw [e, View.canon_unit_zero hz]
  unfold k0_pay6
  rw [View.ld_unit_zero hz, View.ld_unit_zero hz, View.ld_unit_zero hz, View.ld_unit_zero hz, codes_apply,
    iblk0_eq, iblk1_eq, iblk2_eq, iblk3_eq]
  rfl

/-- The run: both results, and the arguments unchanged. -/
theorem run : θ_run defs (onTc (τ := τ) (main (F := Ideal))) ⟨m, fun _ => 0, ρ⟩ fun r => ∀ c : Dev nD,
      r.2.mem ((c : Thread nD τ).loc main_v1_1) = scales (V m c main_arg0) (V m c main_arg1) (V m c main_arg2) (V m c main_v0)
      ∧ r.2.mem ((c : Thread nD τ).loc main_v1_0) = codes (V m c main_arg0) (V m c main_arg1) (V m c main_arg2) (V m c main_v0)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).2.1.trans (final5 m c), (h c).1.trans (final4 m c), (h c).2.2⟩)
    (Value.run_blocks m ρ)

end Cert.GateRefIdeal.RefValue
-- ==== Proof.GateRuns.lean ====
module

public import proofs.«01_k».proof.Proof.Gen.GateUpIdeal.Frame
public import proofs.«01_k».proof.Proof.Gen.GateUpIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.GateUpIdeal.Hand

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's branch 0, from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 26). -/
theorem hcond0_0 : ∀ t : Fin cfg0.N, cond0_0 (grid0.coords t) ↔ t.val % 26 = 0 :=
  (fun t => by
    have ht : t.val < 156 := Nat.lt_of_lt_of_eq t.isLt N_0
    have e0 : (grid0.coords t 0).val = t.val / 26 % 6 := Pipeline.Grid.coords_val t 0 (by decide) rfl
    have e1 : (grid0.coords t 1).val = t.val / 1 % 26 := Pipeline.Grid.coords_val t 1 (by decide) rfl
    simp only [cond0_0, e0, e1]
    word_cmp
   : ∀ t : Fin grid0.N, cond0_0 (grid0.coords t) ↔ t.val % 26 = 0)

/-- The condition of the body's branch 1, from the grid coordinates. -/
abbrev cond0_1 (i : grid0.Coords) : Prop := (Scalar.cmpi .ne (Scalar.extui (Scalar.cmpi .sgt (BitVec.ofNat 32 (i 1).val) 0#32)) 0#32) = 1#1
/-- It holds at the points whose coordinates have 1 ≤ i1. -/
theorem hcond0_1 : ∀ t : Fin cfg0.N, cond0_1 (grid0.coords t) ↔ 1 ≤ t.val % 26 :=
  (by decide +kernel : ∀ t : Fin grid0.N, cond0_1 (grid0.coords t) ↔ 1 ≤ t.val % 26)

/-- The condition of the body's branch 2, from the grid coordinates. -/
abbrev cond0_2 (i : grid0.Coords) : Prop := k0_cond3 i = 1#1
/-- It holds at the points ≡ 25 (mod 26). -/
theorem hcond0_2 : ∀ t : Fin cfg0.N, cond0_2 (grid0.coords t) ↔ t.val % 26 = 25 :=
  (fun t => by
    have ht : t.val < 156 := Nat.lt_of_lt_of_eq t.isLt N_0
    have e0 : (grid0.coords t 0).val = t.val / 26 % 6 := Pipeline.Grid.coords_val t 0 (by decide) rfl
    have e1 : (grid0.coords t 1).val = t.val / 1 % 26 := Pipeline.Grid.coords_val t 1 (by decide) rfl
    simp only [cond0_2, k0_cond3, e0, e1]
    word_cmp
   : ∀ t : Fin grid0.N, cond0_2 (grid0.coords t) ↔ t.val % 26 = 25)

/-! ## Where the windows are idle -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- At the first point of a row block output 6 is idle: the body stores nothing into it. -/
theorem idleAt0_6_A : ∀ t : Fin cfg0.N, cond0_0 (grid0.coords t) → ¬cond0_1 (grid0.coords t) → ¬cond0_2 (grid0.coords t) → cfg0.idle 6 (grid0.coords t) = true := by decide +kernel
/-- At the first point of a row block the pipeline does not write output 6's block back. -/
theorem noFlush0_6_A : ∀ t : Fin cfg0.N, cond0_0 (grid0.coords t) → ¬cond0_1 (grid0.coords t) → ¬cond0_2 (grid0.coords t) → (cfg0.win 6).flush t = false := by decide +kernel
/-- In the middle of a row block output 6 is idle: the body stores nothing into it. -/
theorem idleAt0_6_B : ∀ t : Fin cfg0.N, ¬cond0_0 (grid0.coords t) → cond0_1 (grid0.coords t) → ¬cond0_2 (grid0.coords t) → cfg0.idle 6 (grid0.coords t) = true := by decide +kernel
/-- In the middle of a row block the pipeline does not write output 6's block back. -/
theorem noFlush0_6_B : ∀ t : Fin cfg0.N, ¬cond0_0 (grid0.coords t) → cond0_1 (grid0.coords t) → ¬cond0_2 (grid0.coords t) → (cfg0.win 6).flush t = false := by decide +kernel
/-- At the last point of a row block output 6 is live: the body stores into it. -/
theorem liveAt0_6_C : ∀ t : Fin cfg0.N, ¬cond0_0 (grid0.coords t) → cond0_1 (grid0.coords t) → cond0_2 (grid0.coords t) → cfg0.idle 6 (grid0.coords t) = false := by decide +kernel
/-- At the first point of a row block output 7 is idle: the body stores nothing into it. -/
theorem idleAt0_7_A : ∀ t : Fin cfg0.N, cond0_0 (grid0.coords t) → ¬cond0_1 (grid0.coords t) → ¬cond0_2 (grid0.coords t) → cfg0.idle 7 (grid0.coords t) = true := by decide +kernel
/-- At the first point of a row block the pipeline does not write output 7's block back. -/
theorem noFlush0_7_A : ∀ t : Fin cfg0.N, cond0_0 (grid0.coords t) → ¬cond0_1 (grid0.coords t) → ¬cond0_2 (grid0.coords t) → (cfg0.win 7).flush t = false := by decide +kernel
/-- In the middle of a row block output 7 is idle: the body stores nothing into it. -/
theorem idleAt0_7_B : ∀ t : Fin cfg0.N, ¬cond0_0 (grid0.coords t) → cond0_1 (grid0.coords t) → ¬cond0_2 (grid0.coords t) → cfg0.idle 7 (grid0.coords t) = true := by decide +kernel
/-- In the middle of a row block the pipeline does not write output 7's block back. -/
theorem noFlush0_7_B : ∀ t : Fin cfg0.N, ¬cond0_0 (grid0.coords t) → cond0_1 (grid0.coords t) → ¬cond0_2 (grid0.coords t) → (cfg0.win 7).flush t = false := by decide +kernel
/-- At the last point of a row block output 7 is live: the body stores into it. -/
theorem liveAt0_7_C : ∀ t : Fin cfg0.N, ¬cond0_0 (grid0.coords t) → cond0_1 (grid0.coords t) → cond0_2 (grid0.coords t) → cfg0.idle 7 (grid0.coords t) = false := by decide +kernel

/-! ## The kernel's buffers -/

/-- One staging buffer of output window 6, through which its contents are stated; which one does not matter. -/
abbrev VO0_6 : View sig .tc .vmem S512x6656 .fp8e4m3 := (Memref.whole cc0_stg6_0 : Memref sig .tc .vmem S512x6656 .fp8e4m3).view
/-- One staging buffer of output window 7, through which its contents are stated; which one does not matter. -/
abbrev VO0_7 : View sig .tc .vmem S512x1 .f32 := (Memref.whole cc0_stg7_0 : Memref sig .tc .vmem S512x1 .f32).view
/-- Each window's current staging memref at point `t`, spelled as the pipeline passes it (`bodyAt0`), and its wholeness. -/
abbrev ms0_0 (t : Fin cfg0.N) : Memref sig .tc .vmem S512x16384 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16384x256 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16384x256 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x6656 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x1 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S26x512x256 .f32 := Memref.whole cc0_scratch0
abbrev scM0_1 : Memref sig .tc .vmem S512x128 .f32 := Memref.whole cc0_scratch1
/-- The scratch `arg10` the kernel carries between points, as a view: what it holds is stated through it. -/
abbrev VS0_0 : View sig .tc .vmem S26x512x256 .f32 := scM0_0.view
/-- The scratch `arg11` the kernel carries between points, as a view: what it holds is stated through it. -/
abbrev VS0_1 : View sig .tc .vmem S512x128 .f32 := scM0_1.view

/-- What the region holds besides its windows: the two scratch buffers at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.GateUpIdeal.Hand

end
-- ==== Proof.GateRunA.lean ====
module

public import proofs.«01_k».proof.Proof.GateRuns

@[expose] public section

set_option maxRecDepth 16384

noncomputable section

namespace Cert.GateUpIdeal.Hand

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at the first point of a row block: the pieces its stores leave in the two outputs and the two scratch buffers, last first, with the proof
    that the body, called with the inputs' blocks `x0` … `x5`, runs, keeps the inputs and leaves exactly those pieces written.
    Outputs 6 and 7 are handed back untouched; the scratch of tiles is at the contents `xs0` the point before left, the scratch of maxima at anything. -/
noncomputable def kernelRun0_A (c : Dev nD) (i : grid0.Coords) (arg2 : Memref sig .tc .vmem S512x16384 .fp8e4m3) (harg2 : arg2.IsWhole) (arg3 : Memref sig .tc .vmem S512x1 .f32) (harg3 : arg3.IsWhole) (arg4 : Memref sig .tc .vmem S16384x256 .fp8e4m3) (harg4 : arg4.IsWhole) (arg5 : Memref sig .tc .vmem S16384x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S512x6656 .fp8e4m3) (harg8 : arg8.IsWhole) (arg9 : Memref sig .tc .vmem S512x1 .f32) (harg9 : arg9.IsWhole) (arg10 : Memref sig .tc .vmem S26x512x256 .f32) (harg10 : arg10.IsWhole) (arg11 : Memref sig .tc .vmem S512x128 .f32) (harg11 : arg11.IsWhole) (hc0 : cond0_0 i) (hc1 : ¬cond0_1 i) (hc2 : ¬cond0_2 i)
    (x0 : Vec F S512x16384 .fp8e4m3) (x1 : Vec F S512x1 .f32) (x2 : Vec F S16384x256 .fp8e4m3) (x3 : Vec F S16384x256 .fp8e4m3) (x4 : Vec F S1x256 .f32) (x5 : Vec F S1x256 .f32) :
    Σ' (L6 : List (View.Piece (Elt F) S512x6656 .fp8e4m3)), Σ' (L7 : List (View.Piece (Elt F) S512x1 .f32)), Σ' (LS0 : List (View.Piece (Elt F) S26x512x256 .f32)), { LS1 : List (View.Piece (Elt F) S512x128 .f32) //
      ∀ (xi6 : Vec F S512x6656 .fp8e4m3) (xi7 : Vec F S512x1 .f32) (xs0 : Vec F S26x512x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xs0 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (arg10.view.loc (c : Thread nD τ) ↦[arg10.view.set]{fullShare} arg10.view.writes (Elt F) (harg10.unread xs0) LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__gate_up_kernel i arg2 harg2 arg3 harg3 arg4 harg4 arg5 harg5 arg6 harg6 arg7 harg7 arg8 harg8 arg9 harg9 arg10 harg10 arg11 harg11) K } := by
  refine ⟨[], [], ?_, ?_, fun xi6 xi7 xs0 E K => ?run⟩
  case run =>
    simp only [cc0__gate_up_kernel_eq_skeleton]; unfold cc0__gate_up_kernel_skel
    simp only [k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexact HS0
    iexists _; iexact HS1

end Cert.GateUpIdeal.Hand

end
-- ==== Proof.GateRunB.lean ====
module

public import proofs.«01_k».proof.Proof.GateRunA

@[expose] public section

set_option maxRecDepth 16384

noncomputable section

namespace Cert.GateUpIdeal.Hand

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body in the middle of a row block: the pieces its stores leave in the two outputs and the two scratch buffers, last first, with the proof
    that the body, called with the inputs' blocks `x0` … `x5`, runs, keeps the inputs and leaves exactly those pieces written.
    Outputs 6 and 7 are handed back untouched; the scratch of tiles is at the contents `xs0` and the scratch of maxima at the contents `xs1` that the point before left. -/
noncomputable def kernelRun0_B (c : Dev nD) (i : grid0.Coords) (arg2 : Memref sig .tc .vmem S512x16384 .fp8e4m3) (harg2 : arg2.IsWhole) (arg3 : Memref sig .tc .vmem S512x1 .f32) (harg3 : arg3.IsWhole) (arg4 : Memref sig .tc .vmem S16384x256 .fp8e4m3) (harg4 : arg4.IsWhole) (arg5 : Memref sig .tc .vmem S16384x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S512x6656 .fp8e4m3) (harg8 : arg8.IsWhole) (arg9 : Memref sig .tc .vmem S512x1 .f32) (harg9 : arg9.IsWhole) (arg10 : Memref sig .tc .vmem S26x512x256 .f32) (harg10 : arg10.IsWhole) (arg11 : Memref sig .tc .vmem S512x128 .f32) (harg11 : arg11.IsWhole) (hc0 : ¬cond0_0 i) (hc1 : cond0_1 i) (hc2 : ¬cond0_2 i)
    (x0 : Vec F S512x16384 .fp8e4m3) (x1 : Vec F S512x1 .f32) (x2 : Vec F S16384x256 .fp8e4m3) (x3 : Vec F S16384x256 .fp8e4m3) (x4 : Vec F S1x256 .f32) (x5 : Vec F S1x256 .f32) (xs1 : Vec F S512x128 .f32) :
    Σ' (L6 : List (View.Piece (Elt F) S512x6656 .fp8e4m3)), Σ' (L7 : List (View.Piece (Elt F) S512x1 .f32)), Σ' (LS0 : List (View.Piece (Elt F) S26x512x256 .f32)), { LS1 : List (View.Piece (Elt F) S512x128 .f32) //
      ∀ (xi6 : Vec F S512x6656 .fp8e4m3) (xi7 : Vec F S512x1 .f32) (xs0 : Vec F S26x512x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (arg10.view.loc (c : Thread nD τ) ↦[arg10.view.set]{fullShare} arg10.view.writes (Elt F) (harg10.unread xs0) LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__gate_up_kernel i arg2 harg2 arg3 harg3 arg4 harg4 arg5 harg5 arg6 harg6 arg7 harg7 arg8 harg8 arg9 harg9 arg10 harg10 arg11 harg11) K } := by
  refine ⟨[], [], ?_, ?_, fun xi6 xi7 xs0 E K => ?run⟩
  case run =>
    simp only [cc0__gate_up_kernel_eq_skeleton]; unfold cc0__gate_up_kernel_skel
    simp only [k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg11.eq_unread hfs1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexact HS0
    iexists _; iexact HS1

end Cert.GateUpIdeal.Hand

end
-- ==== Proof.GateRunC.lean ====
module

public import proofs.«01_k».proof.Proof.GateRunB

@[expose] public section

set_option maxRecDepth 16384

noncomputable section

namespace Cert.GateUpIdeal.Hand

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at the last point of a row block: the pieces its stores leave in the two outputs and the two scratch buffers, last first, with the proof
    that the body, called with the inputs' blocks `x0` … `x5`, runs, keeps the inputs and leaves exactly those pieces written.
    Both outputs are stored; the scratch of tiles is at contents `xs0` whose slices 0 … 24 are `ps0_0` … `ps0_24`, the scratch of maxima at `xs1`. -/
noncomputable def kernelRun0_C (c : Dev nD) (i : grid0.Coords) (arg2 : Memref sig .tc .vmem S512x16384 .fp8e4m3) (harg2 : arg2.IsWhole) (arg3 : Memref sig .tc .vmem S512x1 .f32) (harg3 : arg3.IsWhole) (arg4 : Memref sig .tc .vmem S16384x256 .fp8e4m3) (harg4 : arg4.IsWhole) (arg5 : Memref sig .tc .vmem S16384x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S512x6656 .fp8e4m3) (harg8 : arg8.IsWhole) (arg9 : Memref sig .tc .vmem S512x1 .f32) (harg9 : arg9.IsWhole) (arg10 : Memref sig .tc .vmem S26x512x256 .f32) (harg10 : arg10.IsWhole) (arg11 : Memref sig .tc .vmem S512x128 .f32) (harg11 : arg11.IsWhole) (hc0 : ¬cond0_0 i) (hc1 : cond0_1 i) (hc2 : cond0_2 i) (hl0 : k0_off1 i = ![25, 0, 0])
    (x0 : Vec F S512x16384 .fp8e4m3) (x1 : Vec F S512x1 .f32) (x2 : Vec F S16384x256 .fp8e4m3) (x3 : Vec F S16384x256 .fp8e4m3) (x4 : Vec F S1x256 .f32) (x5 : Vec F S1x256 .f32) (xs1 : Vec F S512x128 .f32) (ps0_0 : Vec F S1x512x256 .f32) (ps0_1 : Vec F S1x512x256 .f32) (ps0_2 : Vec F S1x512x256 .f32) (ps0_3 : Vec F S1x512x256 .f32) (ps0_4 : Vec F S1x512x256 .f32) (ps0_5 : Vec F S1x512x256 .f32) (ps0_6 : Vec F S1x512x256 .f32) (ps0_7 : Vec F S1x512x256 .f32) (ps0_8 : Vec F S1x512x256 .f32) (ps0_9 : Vec F S1x512x256 .f32) (ps0_10 : Vec F S1x512x256 .f32) (ps0_11 : Vec F S1x512x256 .f32) (ps0_12 : Vec F S1x512x256 .f32) (ps0_13 : Vec F S1x512x256 .f32) (ps0_14 : Vec F S1x512x256 .f32) (ps0_15 : Vec F S1x512x256 .f32) (ps0_16 : Vec F S1x512x256 .f32) (ps0_17 : Vec F S1x512x256 .f32) (ps0_18 : Vec F S1x512x256 .f32) (ps0_19 : Vec F S1x512x256 .f32) (ps0_20 : Vec F S1x512x256 .f32) (ps0_21 : Vec F S1x512x256 .f32) (ps0_22 : Vec F S1x512x256 .f32) (ps0_23 : Vec F S1x512x256 .f32) (ps0_24 : Vec F S1x512x256 .f32) :
    Σ' (L6 : List (View.Piece (Elt F) S512x6656 .fp8e4m3)), Σ' (L7 : List (View.Piece (Elt F) S512x1 .f32)), Σ' (LS0 : List (View.Piece (Elt F) S26x512x256 .f32)), { LS1 : List (View.Piece (Elt F) S512x128 .f32) //
      ∀ (xs0 : Vec F S26x512x256 .f32) (hps0_0 : View.readAt (Elt F) arg10.view (Rect.unit (s := S26x512x256) ![0, 0, 0] S1x512x256.size inb_S26x512x256_S1x512x256_0_0_0).toLoadRect (harg10.unread xs0) = ps0_0) (hps0_1 : View.readAt (Elt F) arg10.view (Rect.unit (s := S26x512x256) ![1, 0, 0] S1x512x256.size inb_S26x512x256_S1x512x256_1_0_0).toLoadRect (harg10.unread xs0) = ps0_1) (hps0_2 : View.readAt (Elt F) arg10.view (Rect.unit (s := S26x512x256) ![2, 0, 0] S1x512x256.size inb_S26x512x256_S1x512x256_2_0_0).toLoadRect (harg10.unread xs0) = ps0_2) (hps0_3 : View.readAt (Elt F) arg10.view (Rect.unit (s := S26x512x256) ![3, 0, 0] S1x512x256.size inb_S26x512x256_S1x512x256_3_0_0).toLoadRect (harg10.unread xs0) = ps0_3) (hps0_4 : View.readAt (Elt F) arg10.view (Rect.unit (s := S26x512x256) ![4, 0, 0] S1x512x256.size inb_S26x512x256_S1x512x256_4_0_0).toLoadRect (harg10.unread xs0) = ps0_4) (hps0_5 : View.readAt (Elt F) arg10.view (Rect.unit (s := S26x512x256) ![5, 0, 0] S1x512x256.size inb_S26x512x256_S1x512x256_5_0_0).toLoadRect (harg10.unread xs0) = ps0_5) (hps0_6 : View.readAt (Elt F) arg10.view (Rect.unit (s := S26x512x256) ![6, 0, 0] S1x512x256.size inb_S26x512x256_S1x512x256_6_0_0).toLoadRect (harg10.unread xs0) = ps0_6) (hps0_7 : View.readAt (Elt F) arg10.view (Rect.unit (s := S26x512x256) ![7, 0, 0] S1x512x256.size inb_S26x512x256_S1x512x256_7_0_0).toLoadRect (harg10.unread xs0) = ps0_7) (hps0_8 : View.readAt (Elt F) arg10.view (Rect.unit (s := S26x512x256) ![8, 0, 0] S1x512x256.size inb_S26x512x256_S1x512x256_8_0_0).toLoadRect (harg10.unread xs0) = ps0_8) (hps0_9 : View.readAt (Elt F) arg10.view (Rect.unit (s := S26x512x256) ![9, 0, 0] S1x512x256.size inb_S26x512x256_S1x512x256_9_0_0).toLoadRect (harg10.unread xs0) = ps0_9) (hps0_10 : View.readAt (Elt F) arg10.view (Rect.unit (s := S26x512x256) ![10, 0, 0] S1x512x256.size inb_S26x512x256_S1x512x256_10_0_0).toLoadRect (harg10.unread xs0) = ps0_10) (hps0_11 : View.readAt (Elt F) arg10.view (Rect.unit (s := S26x512x256) ![11, 0, 0] S1x512x256.size inb_S26x512x256_S1x512x256_11_0_0).toLoadRect (harg10.unread xs0) = ps0_11) (hps0_12 : View.readAt (Elt F) arg10.view (Rect.unit (s := S26x512x256) ![12, 0, 0] S1x512x256.size inb_S26x512x256_S1x512x256_12_0_0).toLoadRect (harg10.unread xs0) = ps0_12) (hps0_13 : View.readAt (Elt F) arg10.view (Rect.unit (s := S26x512x256) ![13, 0, 0] S1x512x256.size inb_S26x512x256_S1x512x256_13_0_0).toLoadRect (harg10.unread xs0) = ps0_13) (hps0_14 : View.readAt (Elt F) arg10.view (Rect.unit (s := S26x512x256) ![14, 0, 0] S1x512x256.size inb_S26x512x256_S1x512x256_14_0_0).toLoadRect (harg10.unread xs0) = ps0_14) (hps0_15 : View.readAt (Elt F) arg10.view (Rect.unit (s := S26x512x256) ![15, 0, 0] S1x512x256.size inb_S26x512x256_S1x512x256_15_0_0).toLoadRect (harg10.unread xs0) = ps0_15) (hps0_16 : View.readAt (Elt F) arg10.view (Rect.unit (s := S26x512x256) ![16, 0, 0] S1x512x256.size inb_S26x512x256_S1x512x256_16_0_0).toLoadRect (harg10.unread xs0) = ps0_16) (hps0_17 : View.readAt (Elt F) arg10.view (Rect.unit (s := S26x512x256) ![17, 0, 0] S1x512x256.size inb_S26x512x256_S1x512x256_17_0_0).toLoadRect (harg10.unread xs0) = ps0_17) (hps0_18 : View.readAt (Elt F) arg10.view (Rect.unit (s := S26x512x256) ![18, 0, 0] S1x512x256.size inb_S26x512x256_S1x512x256_18_0_0).toLoadRect (harg10.unread xs0) = ps0_18) (hps0_19 : View.readAt (Elt F) arg10.view (Rect.unit (s := S26x512x256) ![19, 0, 0] S1x512x256.size inb_S26x512x256_S1x512x256_19_0_0).toLoadRect (harg10.unread xs0) = ps0_19) (hps0_20 : View.readAt (Elt F) arg10.view (Rect.unit (s := S26x512x256) ![20, 0, 0] S1x512x256.size inb_S26x512x256_S1x512x256_20_0_0).toLoadRect (harg10.unread xs0) = ps0_20) (hps0_21 : View.readAt (Elt F) arg10.view (Rect.unit (s := S26x512x256) ![21, 0, 0] S1x512x256.size inb_S26x512x256_S1x512x256_21_0_0).toLoadRect (harg10.unread xs0) = ps0_21) (hps0_22 : View.readAt (Elt F) arg10.view (Rect.unit (s := S26x512x256) ![22, 0, 0] S1x512x256.size inb_S26x512x256_S1x512x256_22_0_0).toLoadRect (harg10.unread xs0) = ps0_22) (hps0_23 : View.readAt (Elt F) arg10.view (Rect.unit (s := S26x512x256) ![23, 0, 0] S1x512x256.size inb_S26x512x256_S1x512x256_23_0_0).toLoadRect (harg10.unread xs0) = ps0_23) (hps0_24 : View.readAt (Elt F) arg10.view (Rect.unit (s := S26x512x256) ![24, 0, 0] S1x512x256.size inb_S26x512x256_S1x512x256_24_0_0).toLoadRect (harg10.unread xs0) = ps0_24) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (arg10.view.loc (c : Thread nD τ) ↦[arg10.view.set]{fullShare} arg10.view.writes (Elt F) (harg10.unread xs0) LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__gate_up_kernel i arg2 harg2 arg3 harg3 arg4 harg4 arg5 harg5 arg6 harg6 arg7 harg7 arg8 harg8 arg9 harg9 arg10 harg10 arg11 harg11) K } := by
  refine ⟨?_, ?_, ?_, ?_, fun xs0 hps0_0 hps0_1 hps0_2 hps0_3 hps0_4 hps0_5 hps0_6 hps0_7 hps0_8 hps0_9 hps0_10 hps0_11 hps0_12 hps0_13 hps0_14 hps0_15 hps0_16 hps0_17 hps0_18 hps0_19 hps0_20 hps0_21 hps0_22 hps0_23 hps0_24 E K => ?run⟩
  case run =>
    letI : ClosedOff (k0_off1 i) := ⟨![25, 0, 0], hl0⟩
    simp only [cc0__gate_up_kernel_eq_skeleton]; unfold cc0__gate_up_kernel_skel
    simp only [k0_part11_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [HS0]; · iexact HS0
    iexists _; iexact HS1

end Cert.GateUpIdeal.Hand

end
-- ==== Proof.GateBody.lean ====
module

public import proofs.«01_k».proof.Proof.GateRunC
public import Idealize.ShloMosaic.Lib.Pointwise
public import Idealize.ShloMosaic.Lib.WholeRead
public import Idealize.ShloMosaic.Lib.WritesUnit
public import Idealize.ShloMosaic.Lib.VecWindow
public import Idealize.ShloMosaic.Lib.Pipeline.ValueKit

@[expose] public section

set_option maxRecDepth 16384

noncomputable section

namespace Cert.GateUpIdeal.Hand

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Reads and writes of whole buffers -/

/-- The offset of a whole buffer of rank two. -/
theorem hz : (![0, 0] : Fin 2 → ℕ) = fun _ => 0 := by decide

/-- A load of a whole buffer, at offset zero, reads its contents. -/
theorem read_whole {s : Shape} {e : EltTy} (arg : Memref sig .tc .vmem s e) (h : arg.IsWhole) (x : Vec F s e)
    {off : Fin s.rank → ℕ} (ho : off = fun _ => 0) (inb : ∀ a, off a + s.size a ≤ s.size a) :
    View.readAt (Elt F) arg.view (Rect.unit off s.size inb).toLoadRect (h.unread x) = x := by
  subst ho
  funext y
  rw [h.readAt_unread]
  exact congrArg x (funext fun a => Fin.ext (by show 0 + 1 * (y a).val = _; omega))

/-- Slice `j` of a buffer of 26 tiles. -/
def slice (d : Vec F S26x512x256 .f32) (j : Fin 26) : Vec F S1x512x256 .f32 :=
  fun x => d (ix3 j (x 1) (x 2))

/-- A load of slice `j` reads it. -/
theorem read_slice (arg : Memref sig .tc .vmem S26x512x256 .f32) (h : arg.IsWhole) (d : Vec F S26x512x256 .f32)
    (j : Fin 26) {o : ℕ} (ho : o = j.val) (inb : ∀ a, (![o, 0, 0] : Fin 3 → ℕ) a + S1x512x256.size a ≤ S26x512x256.size a) :
    View.readAt (Elt F) arg.view (Rect.unit (s := S26x512x256) ![o, 0, 0] S1x512x256.size inb).toLoadRect (h.unread d)
      = slice d j := by
  subst ho
  funext x
  rw [h.readAt_unread]
  refine congrArg d (funext fun a => Fin.ext ?_)
  have h0 : (x 0).val < 1 := (x 0).isLt
  match a with
  | ⟨0, _⟩ => show j.val + 1 * (x 0).val = j.val; omega
  | ⟨1, _⟩ => show 0 + 1 * (x 1).val = (x 1).val; omega
  | ⟨2, _⟩ => show 0 + 1 * (x 2).val = (x 2).val; omega

/-- What a store of the tile `w` at slice `o` leaves: slice `o` is `w`, the other slices are as before. -/
theorem write_slice (arg : Memref sig .tc .vmem S26x512x256 .f32) (h : arg.IsWhole) (d : Vec F S26x512x256 .f32)
    (o : Fin 26) {off : Fin 3 → ℕ} (ho : off = ![o.val, 0, 0]) (inb : ∀ a, off a + S1x512x256.size a ≤ S26x512x256.size a)
    (w : Vec F S1x512x256 .f32) (j : Fin 26) :
    slice (arg.view.read (Elt F) (arg.view.writes (Elt F) (h.unread d) [⟨Rect.unit (s := S26x512x256) off S1x512x256.size inb, w⟩])) j
      = if j = o then w else slice d j := by
  funext x
  have h0 : (x 0).val < 1 := (x 0).isLt
  unfold slice
  split
  · rename_i hj
    subst hj
    refine View.read_writes_cons_unit_of_mem arg.view (h.unread d) inb w [] (ix3 j (x 1) (x 2)) x ho fun a => ?_
    match a with
    | ⟨0, _⟩ => show j.val = j.val + (x 0).val; omega
    | ⟨1, _⟩ => show (x 1).val = 0 + (x 1).val; omega
    | ⟨2, _⟩ => show (x 2).val = 0 + (x 2).val; omega
  · rename_i hj
    have hne : j.val ≠ o.val := fun e => hj (Fin.ext e)
    refine (View.read_writes_cons_unit_of_not_mem arg.view (h.unread d) inb w [] (ix3 j (x 1) (x 2)) ho 0 ?_).trans (congrFun (h.read_unread d) (ix3 j (x 1) (x 2)))
    show j.val < o.val ∨ o.val + 1 ≤ j.val
    omega

/-! ## The two results as functions of the 26 tiles -/

/-- The biased exponent of the ratio, by the kernel's search, from the lane maxima. -/
def fieldOf (v : Vec F S512x128 .f32) : IVec S512x1 32 := k0_pay5 (k0_pay3 v) (k0_pay4 v) 8#32

/-- The block's scales, from the lane maxima. -/
def scaleOf (v : Vec F S512x128 .f32) : FVec F S512x1 .f32 := k0_pay7 (k0_pay2 v) (fieldOf v)

/-- The reciprocals of the block's scales, from the lane maxima. -/
def recipOf (v : Vec F S512x128 .f32) : FVec F S512x1 .f32 := k0_pay8 (k0_pay2 v) (fieldOf v)

/-- The block's codes, from the 26 tiles and the reciprocals: column `256 * j + l` is lane `l` of tile `j`. -/
def codesOf (inv : FVec F S512x1 .f32) (S : Fin 26 → Vec F S1x512x256 .f32) : Vec F S512x6656 .fp8e4m3 :=
  fun y => k0_pay11 inv (S ⟨(y 1).val / 256, by have h : (y 1).val < 6656 := (y 1).isLt; omega⟩)
    (ix2 (y 0) ⟨(y 1).val % 256, by omega⟩)

/-- The piece a store leaves at columns `256 * j …` is that part of `codesOf`. -/
theorem piece_eq (inv : FVec F S512x1 .f32) (S : Fin 26 → Vec F S1x512x256 .f32) (j : Fin 26)
    {P : Vec F S512x256 .fp8e4m3} {t : Vec F S1x512x256 .f32} (hP : P = k0_pay11 inv t) (hS : S j = t) {o : ℕ} (ho : o = 256 * j.val)
    (inb : ∀ a, (![0, o] : Fin 2 → ℕ) a + (![512, 256] : Fin 2 → ℕ) a ≤ S512x6656.size a) (x : S512x256.Idx) :
    P x = codesOf inv S ((Rect.unit (s := S512x6656) ![0, o] ![512, 256] inb).emb x) := by
  subst hP hS ho
  have h1 : (x 1).val < 256 := (x 1).isLt
  have e0 : ((Rect.unit (s := S512x6656) ![0, 256 * j.val] ![512, 256] inb).emb x 0).val = (x 0).val := by
    show 0 + 1 * (x 0).val = _; omega
  have e1 : ((Rect.unit (s := S512x6656) ![0, 256 * j.val] ![512, 256] inb).emb x 1).val = 256 * j.val + (x 1).val := by
    show 256 * j.val + 1 * (x 1).val = _; omega
  unfold codesOf
  generalize (Rect.unit (s := S512x6656) ![0, 256 * j.val] ![512, 256] inb).emb x = y at e0 e1 ⊢
  have ej : (⟨(y 1).val / 256, by have h : (y 1).val < 6656 := (y 1).isLt; omega⟩ : Fin 26) = j := Fin.ext (by
    show (y 1).val / 256 = j.val; rw [e1]; omega)
  rw [ej]
  refine congrArg (k0_pay11 inv (S j)) (funext fun a => Fin.ext ?_)
  match a with
  | ⟨0, _⟩ => exact e0.symm
  | ⟨1, _⟩ => show (x 1).val = (y 1).val % 256; rw [e1]; omega

/-! ## The body at the three kinds of point -/

/-- The first point of a row block: the tile is stored in its slice, and its lane maxima start the running maxima. -/
theorem piecesA0 (c : Dev nD) (i : grid0.Coords) (arg2 : Memref sig .tc .vmem S512x16384 .fp8e4m3) (harg2 : arg2.IsWhole) (arg3 : Memref sig .tc .vmem S512x1 .f32) (harg3 : arg3.IsWhole) (arg4 : Memref sig .tc .vmem S16384x256 .fp8e4m3) (harg4 : arg4.IsWhole) (arg5 : Memref sig .tc .vmem S16384x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S512x6656 .fp8e4m3) (harg8 : arg8.IsWhole) (arg9 : Memref sig .tc .vmem S512x1 .f32) (harg9 : arg9.IsWhole) (arg10 : Memref sig .tc .vmem S26x512x256 .f32) (harg10 : arg10.IsWhole) (arg11 : Memref sig .tc .vmem S512x128 .f32) (harg11 : arg11.IsWhole) (hc0 : cond0_0 i) (hc1 : ¬cond0_1 i) (hc2 : ¬cond0_2 i) (x0 : Vec F S512x16384 .fp8e4m3) (x1 : Vec F S512x1 .f32) (x2 : Vec F S16384x256 .fp8e4m3) (x3 : Vec F S16384x256 .fp8e4m3) (x4 : Vec F S1x256 .f32) (x5 : Vec F S1x256 .f32) :
    (kernelRun0_A (F := F) c i arg2 harg2 arg3 harg3 arg4 harg4 arg5 harg5 arg6 harg6 arg7 harg7 arg8 harg8 arg9 harg9 arg10 harg10 arg11 harg11 hc0 hc1 hc2 x0 x1 x2 x3 x4 x5).2.2.1
      = [⟨Rect.unit (s := S26x512x256) (k0_off1 i) S1x512x256.size (k0_off1_inb i), k0_pay37 x0 x1 x2 x3 x4 x5⟩] := by
  unfold kernelRun0_A
  dsimp only
  rw [read_whole arg2 harg2 x0 hz, read_whole arg3 harg3 x1 hz, read_whole arg4 harg4 x2 hz, read_whole arg5 harg5 x3 hz, read_whole arg6 harg6 x4 hz, read_whole arg7 harg7 x5 hz]

/-- The running maxima after such a point. -/
theorem piecesA1 (c : Dev nD) (i : grid0.Coords) (arg2 : Memref sig .tc .vmem S512x16384 .fp8e4m3) (harg2 : arg2.IsWhole) (arg3 : Memref sig .tc .vmem S512x1 .f32) (harg3 : arg3.IsWhole) (arg4 : Memref sig .tc .vmem S16384x256 .fp8e4m3) (harg4 : arg4.IsWhole) (arg5 : Memref sig .tc .vmem S16384x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S512x6656 .fp8e4m3) (harg8 : arg8.IsWhole) (arg9 : Memref sig .tc .vmem S512x1 .f32) (harg9 : arg9.IsWhole) (arg10 : Memref sig .tc .vmem S26x512x256 .f32) (harg10 : arg10.IsWhole) (arg11 : Memref sig .tc .vmem S512x128 .f32) (harg11 : arg11.IsWhole) (hc0 : cond0_0 i) (hc1 : ¬cond0_1 i) (hc2 : ¬cond0_2 i) (x0 : Vec F S512x16384 .fp8e4m3) (x1 : Vec F S512x1 .f32) (x2 : Vec F S16384x256 .fp8e4m3) (x3 : Vec F S16384x256 .fp8e4m3) (x4 : Vec F S1x256 .f32) (x5 : Vec F S1x256 .f32) :
    (kernelRun0_A (F := F) c i arg2 harg2 arg3 harg3 arg4 harg4 arg5 harg5 arg6 harg6 arg7 harg7 arg8 harg8 arg9 harg9 arg10 harg10 arg11 harg11 hc0 hc1 hc2 x0 x1 x2 x3 x4 x5).2.2.2.1
      = [⟨Rect.unit (s := S512x128) ![0, 0] S512x128.size inb_S512x128_S512x128_0_0, k0_pay39 x0 x1 x2 x3 x4 x5⟩] := by
  unfold kernelRun0_A
  dsimp only
  rw [read_whole arg2 harg2 x0 hz, read_whole arg3 harg3 x1 hz, read_whole arg4 harg4 x2 hz, read_whole arg5 harg5 x3 hz, read_whole arg6 harg6 x4 hz, read_whole arg7 harg7 x5 hz]

set_option maxHeartbeats 1000000 in
/-- The body's triple at such a point. -/
theorem bodyA (c : Dev nD) (i : grid0.Coords) (arg2 : Memref sig .tc .vmem S512x16384 .fp8e4m3) (harg2 : arg2.IsWhole) (arg3 : Memref sig .tc .vmem S512x1 .f32) (harg3 : arg3.IsWhole) (arg4 : Memref sig .tc .vmem S16384x256 .fp8e4m3) (harg4 : arg4.IsWhole) (arg5 : Memref sig .tc .vmem S16384x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S512x6656 .fp8e4m3) (harg8 : arg8.IsWhole) (arg9 : Memref sig .tc .vmem S512x1 .f32) (harg9 : arg9.IsWhole) (arg10 : Memref sig .tc .vmem S26x512x256 .f32) (harg10 : arg10.IsWhole) (arg11 : Memref sig .tc .vmem S512x128 .f32) (harg11 : arg11.IsWhole) (hc0 : cond0_0 i) (hc1 : ¬cond0_1 i) (hc2 : ¬cond0_2 i) (o : Fin 26) (ho : k0_off1 i = ![o.val, 0, 0]) (x0 : Vec F S512x16384 .fp8e4m3) (x1 : Vec F S512x1 .f32) (x2 : Vec F S16384x256 .fp8e4m3) (x3 : Vec F S16384x256 .fp8e4m3) (x4 : Vec F S1x256 .f32) (x5 : Vec F S1x256 .f32) (xs0 : Vec F S26x512x256 .f32) (xi6 : Vec F S512x6656 .fp8e4m3) (xi7 : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xs0 ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7
            ∗ (∃ d, ⌜∀ j, slice d j = if j = o then k0_pay37 x0 x1 x2 x3 x4 x5 else slice xs0 j⌝ ∗ owns (c : Thread nD τ) arg10 fullShare d)
            ∗ owns (c : Thread nD τ) arg11 fullShare (k0_pay39 x0 x1 x2 x3 x4 x5)) -∗ K ⟨⟩))
      ⊢ wp frame (wpE (defs₀ (F := F)) Variants.none c none) E (cc0__gate_up_kernel i arg2 harg2 arg3 harg3 arg4 harg4 arg5 harg5 arg6 harg6 arg7 harg7 arg8 harg8 arg9 harg9 arg10 harg10 arg11 harg11) K := by
  have hr := (kernelRun0_A (F := F) c i arg2 harg2 arg3 harg3 arg4 harg4 arg5 harg5 arg6 harg6 arg7 harg7 arg8 harg8 arg9 harg9 arg10 harg10 arg11 harg11 hc0 hc1 hc2 x0 x1 x2 x3 x4 x5).2.2.2.2 xi6 xi7 xs0 E K
  iintro ⟨H0, H1, H2, H3, H4, H5, H6, H7, HS0, HS1, Hk⟩
  iapply hr
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  iintro ⟨H0, H1, H2, H3, H4, H5, H6, H7, HS0, ⟨%f1, HS1⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]
  · iexists _
    isplitr
    swap
    · unfold owns; iexists _; isplitr
      swap; · iexact HS0
      ipureintro; rfl
    ipureintro; intro j
    exact (congrArg (fun L => slice (arg10.view.read (Elt F) (arg10.view.writes (Elt F) (harg10.unread xs0) L)) j)
      (piecesA0 (F := F) c i arg2 harg2 arg3 harg3 arg4 harg4 arg5 harg5 arg6 harg6 arg7 harg7 arg8 harg8 arg9 harg9 arg10 harg10 arg11 harg11 hc0 hc1 hc2 x0 x1 x2 x3 x4 x5)).trans (write_slice arg10 harg10 xs0 o ho _ _ j)
  unfold owns; iexists _; isplitr
  swap; · iexact HS1
  ipureintro
  exact (congrArg (fun L => arg11.view.read (Elt F) (arg11.view.writes (Elt F) f1 L))
    (piecesA1 (F := F) c i arg2 harg2 arg3 harg3 arg4 harg4 arg5 harg5 arg6 harg6 arg7 harg7 arg8 harg8 arg9 harg9 arg10 harg10 arg11 harg11 hc0 hc1 hc2 x0 x1 x2 x3 x4 x5)).trans (View.read_writes_full _ _ _ _ _)

/-- A point in the middle of a row block: the tile is stored in its slice, and its lane maxima join the running maxima. -/
theorem piecesB0 (c : Dev nD) (i : grid0.Coords) (arg2 : Memref sig .tc .vmem S512x16384 .fp8e4m3) (harg2 : arg2.IsWhole) (arg3 : Memref sig .tc .vmem S512x1 .f32) (harg3 : arg3.IsWhole) (arg4 : Memref sig .tc .vmem S16384x256 .fp8e4m3) (harg4 : arg4.IsWhole) (arg5 : Memref sig .tc .vmem S16384x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S512x6656 .fp8e4m3) (harg8 : arg8.IsWhole) (arg9 : Memref sig .tc .vmem S512x1 .f32) (harg9 : arg9.IsWhole) (arg10 : Memref sig .tc .vmem S26x512x256 .f32) (harg10 : arg10.IsWhole) (arg11 : Memref sig .tc .vmem S512x128 .f32) (harg11 : arg11.IsWhole) (hc0 : ¬cond0_0 i) (hc1 : cond0_1 i) (hc2 : ¬cond0_2 i) (x0 : Vec F S512x16384 .fp8e4m3) (x1 : Vec F S512x1 .f32) (x2 : Vec F S16384x256 .fp8e4m3) (x3 : Vec F S16384x256 .fp8e4m3) (x4 : Vec F S1x256 .f32) (x5 : Vec F S1x256 .f32) (xs1 : Vec F S512x128 .f32) :
    (kernelRun0_B (F := F) c i arg2 harg2 arg3 harg3 arg4 harg4 arg5 harg5 arg6 harg6 arg7 harg7 arg8 harg8 arg9 harg9 arg10 harg10 arg11 harg11 hc0 hc1 hc2 x0 x1 x2 x3 x4 x5 xs1).2.2.1
      = [⟨Rect.unit (s := S26x512x256) (k0_off1 i) S1x512x256.size (k0_off1_inb i), k0_pay37 x0 x1 x2 x3 x4 x5⟩] := by
  unfold kernelRun0_B
  dsimp only
  rw [read_whole arg2 harg2 x0 hz, read_whole arg3 harg3 x1 hz, read_whole arg4 harg4 x2 hz, read_whole arg5 harg5 x3 hz, read_whole arg6 harg6 x4 hz, read_whole arg7 harg7 x5 hz]

/-- The running maxima after such a point. -/
theorem piecesB1 (c : Dev nD) (i : grid0.Coords) (arg2 : Memref sig .tc .vmem S512x16384 .fp8e4m3) (harg2 : arg2.IsWhole) (arg3 : Memref sig .tc .vmem S512x1 .f32) (harg3 : arg3.IsWhole) (arg4 : Memref sig .tc .vmem S16384x256 .fp8e4m3) (harg4 : arg4.IsWhole) (arg5 : Memref sig .tc .vmem S16384x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S512x6656 .fp8e4m3) (harg8 : arg8.IsWhole) (arg9 : Memref sig .tc .vmem S512x1 .f32) (harg9 : arg9.IsWhole) (arg10 : Memref sig .tc .vmem S26x512x256 .f32) (harg10 : arg10.IsWhole) (arg11 : Memref sig .tc .vmem S512x128 .f32) (harg11 : arg11.IsWhole) (hc0 : ¬cond0_0 i) (hc1 : cond0_1 i) (hc2 : ¬cond0_2 i) (x0 : Vec F S512x16384 .fp8e4m3) (x1 : Vec F S512x1 .f32) (x2 : Vec F S16384x256 .fp8e4m3) (x3 : Vec F S16384x256 .fp8e4m3) (x4 : Vec F S1x256 .f32) (x5 : Vec F S1x256 .f32) (xs1 : Vec F S512x128 .f32) :
    (kernelRun0_B (F := F) c i arg2 harg2 arg3 harg3 arg4 harg4 arg5 harg5 arg6 harg6 arg7 harg7 arg8 harg8 arg9 harg9 arg10 harg10 arg11 harg11 hc0 hc1 hc2 x0 x1 x2 x3 x4 x5 xs1).2.2.2.1
      = [⟨Rect.unit (s := S512x128) ![0, 0] S512x128.size inb_S512x128_S512x128_0_0, k0_pay40 x0 x1 x2 x3 x4 x5 xs1⟩] := by
  unfold kernelRun0_B
  dsimp only
  rw [read_whole arg2 harg2 x0 hz, read_whole arg3 harg3 x1 hz, read_whole arg4 harg4 x2 hz, read_whole arg5 harg5 x3 hz, read_whole arg6 harg6 x4 hz, read_whole arg7 harg7 x5 hz, read_whole arg11 harg11 xs1 hz]

set_option maxHeartbeats 1000000 in
/-- The body's triple at such a point. -/
theorem bodyB (c : Dev nD) (i : grid0.Coords) (arg2 : Memref sig .tc .vmem S512x16384 .fp8e4m3) (harg2 : arg2.IsWhole) (arg3 : Memref sig .tc .vmem S512x1 .f32) (harg3 : arg3.IsWhole) (arg4 : Memref sig .tc .vmem S16384x256 .fp8e4m3) (harg4 : arg4.IsWhole) (arg5 : Memref sig .tc .vmem S16384x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S512x6656 .fp8e4m3) (harg8 : arg8.IsWhole) (arg9 : Memref sig .tc .vmem S512x1 .f32) (harg9 : arg9.IsWhole) (arg10 : Memref sig .tc .vmem S26x512x256 .f32) (harg10 : arg10.IsWhole) (arg11 : Memref sig .tc .vmem S512x128 .f32) (harg11 : arg11.IsWhole) (hc0 : ¬cond0_0 i) (hc1 : cond0_1 i) (hc2 : ¬cond0_2 i) (o : Fin 26) (ho : k0_off1 i = ![o.val, 0, 0]) (x0 : Vec F S512x16384 .fp8e4m3) (x1 : Vec F S512x1 .f32) (x2 : Vec F S16384x256 .fp8e4m3) (x3 : Vec F S16384x256 .fp8e4m3) (x4 : Vec F S1x256 .f32) (x5 : Vec F S1x256 .f32) (xs1 : Vec F S512x128 .f32) (xs0 : Vec F S26x512x256 .f32) (xi6 : Vec F S512x6656 .fp8e4m3) (xi7 : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xs0 ∗ owns (c : Thread nD τ) arg11 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7
            ∗ (∃ d, ⌜∀ j, slice d j = if j = o then k0_pay37 x0 x1 x2 x3 x4 x5 else slice xs0 j⌝ ∗ owns (c : Thread nD τ) arg10 fullShare d)
            ∗ owns (c : Thread nD τ) arg11 fullShare (k0_pay40 x0 x1 x2 x3 x4 x5 xs1)) -∗ K ⟨⟩))
      ⊢ wp frame (wpE (defs₀ (F := F)) Variants.none c none) E (cc0__gate_up_kernel i arg2 harg2 arg3 harg3 arg4 harg4 arg5 harg5 arg6 harg6 arg7 harg7 arg8 harg8 arg9 harg9 arg10 harg10 arg11 harg11) K := by
  have hr := (kernelRun0_B (F := F) c i arg2 harg2 arg3 harg3 arg4 harg4 arg5 harg5 arg6 harg6 arg7 harg7 arg8 harg8 arg9 harg9 arg10 harg10 arg11 harg11 hc0 hc1 hc2 x0 x1 x2 x3 x4 x5 xs1).2.2.2.2 xi6 xi7 xs0 E K
  iintro ⟨H0, H1, H2, H3, H4, H5, H6, H7, HS0, HS1, Hk⟩
  iapply hr
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  iintro ⟨H0, H1, H2, H3, H4, H5, H6, H7, HS0, ⟨%f1, HS1⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]
  · iexists _
    isplitr
    swap
    · unfold owns; iexists _; isplitr
      swap; · iexact HS0
      ipureintro; rfl
    ipureintro; intro j
    exact (congrArg (fun L => slice (arg10.view.read (Elt F) (arg10.view.writes (Elt F) (harg10.unread xs0) L)) j)
      (piecesB0 (F := F) c i arg2 harg2 arg3 harg3 arg4 harg4 arg5 harg5 arg6 harg6 arg7 harg7 arg8 harg8 arg9 harg9 arg10 harg10 arg11 harg11 hc0 hc1 hc2 x0 x1 x2 x3 x4 x5 xs1)).trans (write_slice arg10 harg10 xs0 o ho _ _ j)
  unfold owns; iexists _; isplitr
  swap; · iexact HS1
  ipureintro
  exact (congrArg (fun L => arg11.view.read (Elt F) (arg11.view.writes (Elt F) f1 L))
    (piecesB1 (F := F) c i arg2 harg2 arg3 harg3 arg4 harg4 arg5 harg5 arg6 harg6 arg7 harg7 arg8 harg8 arg9 harg9 arg10 harg10 arg11 harg11 hc0 hc1 hc2 x0 x1 x2 x3 x4 x5 xs1)).trans (View.read_writes_full _ _ _ _ _)

end Cert.GateUpIdeal.Hand

end
-- ==== Proof.GateBodyC.lean ====
module

public import proofs.«01_k».proof.Proof.GateBody

@[expose] public section

set_option maxRecDepth 16384

noncomputable section

namespace Cert.GateUpIdeal.Hand

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The last point of a row block -/

/-- The running maxima the last point reads back are those it just stored. -/
theorem maxima_read (c : Dev nD) (arg2 : Memref sig .tc .vmem S512x16384 .fp8e4m3) (harg2 : arg2.IsWhole) (arg3 : Memref sig .tc .vmem S512x1 .f32) (harg3 : arg3.IsWhole) (arg4 : Memref sig .tc .vmem S16384x256 .fp8e4m3) (harg4 : arg4.IsWhole) (arg5 : Memref sig .tc .vmem S16384x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S512x6656 .fp8e4m3) (harg8 : arg8.IsWhole) (arg9 : Memref sig .tc .vmem S512x1 .f32) (harg9 : arg9.IsWhole) (arg10 : Memref sig .tc .vmem S26x512x256 .f32) (harg10 : arg10.IsWhole) (arg11 : Memref sig .tc .vmem S512x128 .f32) (harg11 : arg11.IsWhole) (x0 : Vec F S512x16384 .fp8e4m3) (x1 : Vec F S512x1 .f32) (x2 : Vec F S16384x256 .fp8e4m3) (x3 : Vec F S16384x256 .fp8e4m3) (x4 : Vec F S1x256 .f32) (x5 : Vec F S1x256 .f32) (xs1 : Vec F S512x128 .f32) :
    kernelRun0_C.sl.v38 c arg2 harg2 arg3 harg3 arg4 harg4 arg5 harg5 arg6 harg6 arg7 harg7 arg11 harg11 x0 x1 x2 x3 x4 x5 xs1 = k0_pay40 x0 x1 x2 x3 x4 x5 xs1 := by
  unfold kernelRun0_C.sl.v38
  try unfold kernelRun0_C.sl.HS1_1
  rw [read_whole arg2 harg2 x0 hz, read_whole arg3 harg3 x1 hz, read_whole arg4 harg4 x2 hz, read_whole arg5 harg5 x3 hz, read_whole arg6 harg6 x4 hz, read_whole arg7 harg7 x5 hz, read_whole arg11 harg11 xs1 hz]
  exact View.readCov_full _ _ _ _ _

/-- A covered load of the slice just stored reads the tile. -/
theorem cov_slice (arg : Memref sig .tc .vmem S26x512x256 .f32) {off : Fin 3 → ℕ} (ho : off = ![25, 0, 0])
    (inb : ∀ a, off a + (![1, 512, 256] : Fin 3 → ℕ) a ≤ S26x512x256.size a)
    (inb' : ∀ a, (![25, 0, 0] : Fin 3 → ℕ) a + (![1, 512, 256] : Fin 3 → ℕ) a ≤ S26x512x256.size a) (w : Vec F S1x512x256 .f32) :
    arg.view.readCov (Val := Elt F) [⟨Rect.unit (s := S26x512x256) off ![1, 512, 256] inb, w⟩]
      (Rect.unit (s := S26x512x256) ![25, 0, 0] ![1, 512, 256] inb').toLoadRect = w := by
  subst ho
  exact View.readCov_cons_toLoadRect _ _ _ _

/-- The tile the last point reads back is the one it just stored. -/
theorem tile_read (c : Dev nD) (i : grid0.Coords) (arg2 : Memref sig .tc .vmem S512x16384 .fp8e4m3) (harg2 : arg2.IsWhole) (arg3 : Memref sig .tc .vmem S512x1 .f32) (harg3 : arg3.IsWhole) (arg4 : Memref sig .tc .vmem S16384x256 .fp8e4m3) (harg4 : arg4.IsWhole) (arg5 : Memref sig .tc .vmem S16384x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S512x6656 .fp8e4m3) (harg8 : arg8.IsWhole) (arg9 : Memref sig .tc .vmem S512x1 .f32) (harg9 : arg9.IsWhole) (arg10 : Memref sig .tc .vmem S26x512x256 .f32) (harg10 : arg10.IsWhole) (arg11 : Memref sig .tc .vmem S512x128 .f32) (harg11 : arg11.IsWhole) (hl0 : k0_off1 i = ![25, 0, 0]) (x0 : Vec F S512x16384 .fp8e4m3) (x1 : Vec F S512x1 .f32) (x2 : Vec F S16384x256 .fp8e4m3) (x3 : Vec F S16384x256 .fp8e4m3) (x4 : Vec F S1x256 .f32) (x5 : Vec F S1x256 .f32) :
    kernelRun0_C.sl.v392 c i arg2 harg2 arg3 harg3 arg4 harg4 arg5 harg5 arg6 harg6 arg7 harg7 arg10 x0 x1 x2 x3 x4 x5 = k0_pay37 x0 x1 x2 x3 x4 x5 := by
  unfold kernelRun0_C.sl.v392
  try unfold kernelRun0_C.sl.HS0_1
  rw [read_whole arg2 harg2 x0 hz, read_whole arg3 harg3 x1 hz, read_whole arg4 harg4 x2 hz, read_whole arg5 harg5 x3 hz, read_whole arg6 harg6 x4 hz, read_whole arg7 harg7 x5 hz]
  exact cov_slice arg10 hl0 _ _ _

/-- The reciprocals the last point multiplies by. -/
theorem recip_read (c : Dev nD) (arg2 : Memref sig .tc .vmem S512x16384 .fp8e4m3) (harg2 : arg2.IsWhole) (arg3 : Memref sig .tc .vmem S512x1 .f32) (harg3 : arg3.IsWhole) (arg4 : Memref sig .tc .vmem S16384x256 .fp8e4m3) (harg4 : arg4.IsWhole) (arg5 : Memref sig .tc .vmem S16384x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S512x6656 .fp8e4m3) (harg8 : arg8.IsWhole) (arg9 : Memref sig .tc .vmem S512x1 .f32) (harg9 : arg9.IsWhole) (arg10 : Memref sig .tc .vmem S26x512x256 .f32) (harg10 : arg10.IsWhole) (arg11 : Memref sig .tc .vmem S512x128 .f32) (harg11 : arg11.IsWhole) (x0 : Vec F S512x16384 .fp8e4m3) (x1 : Vec F S512x1 .f32) (x2 : Vec F S16384x256 .fp8e4m3) (x3 : Vec F S16384x256 .fp8e4m3) (x4 : Vec F S1x256 .f32) (x5 : Vec F S1x256 .f32) (xs1 : Vec F S512x128 .f32) :
    kernelRun0_C.sl.r_4 c arg2 harg2 arg3 harg3 arg4 harg4 arg5 harg5 arg6 harg6 arg7 harg7 arg11 harg11 x0 x1 x2 x3 x4 x5 xs1 = recipOf (k0_pay40 x0 x1 x2 x3 x4 x5 xs1) := by
  unfold kernelRun0_C.sl.r_4 kernelRun0_C.sl.r_3 kernelRun0_C.sl.r kernelRun0_C.sl.r_1 kernelRun0_C.sl.r_2
  rw [maxima_read c arg2 harg2 arg3 harg3 arg4 harg4 arg5 harg5 arg6 harg6 arg7 harg7 arg8 harg8 arg9 harg9 arg10 harg10 arg11 harg11]
  generalize (k0_pay40 x0 x1 x2 x3 x4 x5 xs1) = v
  rfl

/-- The scales the last point stores. -/
theorem piecesC7 (c : Dev nD) (i : grid0.Coords) (arg2 : Memref sig .tc .vmem S512x16384 .fp8e4m3) (harg2 : arg2.IsWhole) (arg3 : Memref sig .tc .vmem S512x1 .f32) (harg3 : arg3.IsWhole) (arg4 : Memref sig .tc .vmem S16384x256 .fp8e4m3) (harg4 : arg4.IsWhole) (arg5 : Memref sig .tc .vmem S16384x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S512x6656 .fp8e4m3) (harg8 : arg8.IsWhole) (arg9 : Memref sig .tc .vmem S512x1 .f32) (harg9 : arg9.IsWhole) (arg10 : Memref sig .tc .vmem S26x512x256 .f32) (harg10 : arg10.IsWhole) (arg11 : Memref sig .tc .vmem S512x128 .f32) (harg11 : arg11.IsWhole) (hc0 : ¬cond0_0 i) (hc1 : cond0_1 i) (hc2 : cond0_2 i) (hl0 : k0_off1 i = ![25, 0, 0]) (x0 : Vec F S512x16384 .fp8e4m3) (x1 : Vec F S512x1 .f32) (x2 : Vec F S16384x256 .fp8e4m3) (x3 : Vec F S16384x256 .fp8e4m3) (x4 : Vec F S1x256 .f32) (x5 : Vec F S1x256 .f32) (xs1 : Vec F S512x128 .f32) (ps0_0 : Vec F S1x512x256 .f32) (ps0_1 : Vec F S1x512x256 .f32) (ps0_2 : Vec F S1x512x256 .f32) (ps0_3 : Vec F S1x512x256 .f32) (ps0_4 : Vec F S1x512x256 .f32) (ps0_5 : Vec F S1x512x256 .f32) (ps0_6 : Vec F S1x512x256 .f32) (ps0_7 : Vec F S1x512x256 .f32) (ps0_8 : Vec F S1x512x256 .f32) (ps0_9 : Vec F S1x512x256 .f32) (ps0_10 : Vec F S1x512x256 .f32) (ps0_11 : Vec F S1x512x256 .f32) (ps0_12 : Vec F S1x512x256 .f32) (ps0_13 : Vec F S1x512x256 .f32) (ps0_14 : Vec F S1x512x256 .f32) (ps0_15 : Vec F S1x512x256 .f32) (ps0_16 : Vec F S1x512x256 .f32) (ps0_17 : Vec F S1x512x256 .f32) (ps0_18 : Vec F S1x512x256 .f32) (ps0_19 : Vec F S1x512x256 .f32) (ps0_20 : Vec F S1x512x256 .f32) (ps0_21 : Vec F S1x512x256 .f32) (ps0_22 : Vec F S1x512x256 .f32) (ps0_23 : Vec F S1x512x256 .f32) (ps0_24 : Vec F S1x512x256 .f32) :
    (kernelRun0_C (F := F) c i arg2 harg2 arg3 harg3 arg4 harg4 arg5 harg5 arg6 harg6 arg7 harg7 arg8 harg8 arg9 harg9 arg10 harg10 arg11 harg11 hc0 hc1 hc2 hl0 x0 x1 x2 x3 x4 x5 xs1 ps0_0 ps0_1 ps0_2 ps0_3 ps0_4 ps0_5 ps0_6 ps0_7 ps0_8 ps0_9 ps0_10 ps0_11 ps0_12 ps0_13 ps0_14 ps0_15 ps0_16 ps0_17 ps0_18 ps0_19 ps0_20 ps0_21 ps0_22 ps0_23 ps0_24).2.1
      = [⟨Rect.unit (s := S512x1) ![0, 0] S512x1.size inb_S512x1_S512x1_0_0, scaleOf (k0_pay40 x0 x1 x2 x3 x4 x5 xs1)⟩] := by
  unfold kernelRun0_C
  dsimp only
  unfold kernelRun0_C.sl.r_3 kernelRun0_C.sl.r kernelRun0_C.sl.r_1 kernelRun0_C.sl.r_2
  rw [maxima_read c arg2 harg2 arg3 harg3 arg4 harg4 arg5 harg5 arg6 harg6 arg7 harg7 arg8 harg8 arg9 harg9 arg10 harg10 arg11 harg11]
  generalize (k0_pay40 x0 x1 x2 x3 x4 x5 xs1) = v
  rfl

/-- The slice the last point stores. -/
theorem piecesC0 (c : Dev nD) (i : grid0.Coords) (arg2 : Memref sig .tc .vmem S512x16384 .fp8e4m3) (harg2 : arg2.IsWhole) (arg3 : Memref sig .tc .vmem S512x1 .f32) (harg3 : arg3.IsWhole) (arg4 : Memref sig .tc .vmem S16384x256 .fp8e4m3) (harg4 : arg4.IsWhole) (arg5 : Memref sig .tc .vmem S16384x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S512x6656 .fp8e4m3) (harg8 : arg8.IsWhole) (arg9 : Memref sig .tc .vmem S512x1 .f32) (harg9 : arg9.IsWhole) (arg10 : Memref sig .tc .vmem S26x512x256 .f32) (harg10 : arg10.IsWhole) (arg11 : Memref sig .tc .vmem S512x128 .f32) (harg11 : arg11.IsWhole) (hc0 : ¬cond0_0 i) (hc1 : cond0_1 i) (hc2 : cond0_2 i) (hl0 : k0_off1 i = ![25, 0, 0]) (x0 : Vec F S512x16384 .fp8e4m3) (x1 : Vec F S512x1 .f32) (x2 : Vec F S16384x256 .fp8e4m3) (x3 : Vec F S16384x256 .fp8e4m3) (x4 : Vec F S1x256 .f32) (x5 : Vec F S1x256 .f32) (xs1 : Vec F S512x128 .f32) (ps0_0 : Vec F S1x512x256 .f32) (ps0_1 : Vec F S1x512x256 .f32) (ps0_2 : Vec F S1x512x256 .f32) (ps0_3 : Vec F S1x512x256 .f32) (ps0_4 : Vec F S1x512x256 .f32) (ps0_5 : Vec F S1x512x256 .f32) (ps0_6 : Vec F S1x512x256 .f32) (ps0_7 : Vec F S1x512x256 .f32) (ps0_8 : Vec F S1x512x256 .f32) (ps0_9 : Vec F S1x512x256 .f32) (ps0_10 : Vec F S1x512x256 .f32) (ps0_11 : Vec F S1x512x256 .f32) (ps0_12 : Vec F S1x512x256 .f32) (ps0_13 : Vec F S1x512x256 .f32) (ps0_14 : Vec F S1x512x256 .f32) (ps0_15 : Vec F S1x512x256 .f32) (ps0_16 : Vec F S1x512x256 .f32) (ps0_17 : Vec F S1x512x256 .f32) (ps0_18 : Vec F S1x512x256 .f32) (ps0_19 : Vec F S1x512x256 .f32) (ps0_20 : Vec F S1x512x256 .f32) (ps0_21 : Vec F S1x512x256 .f32) (ps0_22 : Vec F S1x512x256 .f32) (ps0_23 : Vec F S1x512x256 .f32) (ps0_24 : Vec F S1x512x256 .f32) :
    (kernelRun0_C (F := F) c i arg2 harg2 arg3 harg3 arg4 harg4 arg5 harg5 arg6 harg6 arg7 harg7 arg8 harg8 arg9 harg9 arg10 harg10 arg11 harg11 hc0 hc1 hc2 hl0 x0 x1 x2 x3 x4 x5 xs1 ps0_0 ps0_1 ps0_2 ps0_3 ps0_4 ps0_5 ps0_6 ps0_7 ps0_8 ps0_9 ps0_10 ps0_11 ps0_12 ps0_13 ps0_14 ps0_15 ps0_16 ps0_17 ps0_18 ps0_19 ps0_20 ps0_21 ps0_22 ps0_23 ps0_24).2.2.1
      = [⟨Rect.unit (s := S26x512x256) (k0_off1 i) S1x512x256.size (k0_off1_inb i), k0_pay37 x0 x1 x2 x3 x4 x5⟩] := by
  unfold kernelRun0_C
  dsimp only
  unfold kernelRun0_C.sl.HS0_1
  rw [read_whole arg2 harg2 x0 hz, read_whole arg3 harg3 x1 hz, read_whole arg4 harg4 x2 hz, read_whole arg5 harg5 x3 hz, read_whole arg6 harg6 x4 hz, read_whole arg7 harg7 x5 hz]

/-- The running maxima the last point stores. -/
theorem piecesC1 (c : Dev nD) (i : grid0.Coords) (arg2 : Memref sig .tc .vmem S512x16384 .fp8e4m3) (harg2 : arg2.IsWhole) (arg3 : Memref sig .tc .vmem S512x1 .f32) (harg3 : arg3.IsWhole) (arg4 : Memref sig .tc .vmem S16384x256 .fp8e4m3) (harg4 : arg4.IsWhole) (arg5 : Memref sig .tc .vmem S16384x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S512x6656 .fp8e4m3) (harg8 : arg8.IsWhole) (arg9 : Memref sig .tc .vmem S512x1 .f32) (harg9 : arg9.IsWhole) (arg10 : Memref sig .tc .vmem S26x512x256 .f32) (harg10 : arg10.IsWhole) (arg11 : Memref sig .tc .vmem S512x128 .f32) (harg11 : arg11.IsWhole) (hc0 : ¬cond0_0 i) (hc1 : cond0_1 i) (hc2 : cond0_2 i) (hl0 : k0_off1 i = ![25, 0, 0]) (x0 : Vec F S512x16384 .fp8e4m3) (x1 : Vec F S512x1 .f32) (x2 : Vec F S16384x256 .fp8e4m3) (x3 : Vec F S16384x256 .fp8e4m3) (x4 : Vec F S1x256 .f32) (x5 : Vec F S1x256 .f32) (xs1 : Vec F S512x128 .f32) (ps0_0 : Vec F S1x512x256 .f32) (ps0_1 : Vec F S1x512x256 .f32) (ps0_2 : Vec F S1x512x256 .f32) (ps0_3 : Vec F S1x512x256 .f32) (ps0_4 : Vec F S1x512x256 .f32) (ps0_5 : Vec F S1x512x256 .f32) (ps0_6 : Vec F S1x512x256 .f32) (ps0_7 : Vec F S1x512x256 .f32) (ps0_8 : Vec F S1x512x256 .f32) (ps0_9 : Vec F S1x512x256 .f32) (ps0_10 : Vec F S1x512x256 .f32) (ps0_11 : Vec F S1x512x256 .f32) (ps0_12 : Vec F S1x512x256 .f32) (ps0_13 : Vec F S1x512x256 .f32) (ps0_14 : Vec F S1x512x256 .f32) (ps0_15 : Vec F S1x512x256 .f32) (ps0_16 : Vec F S1x512x256 .f32) (ps0_17 : Vec F S1x512x256 .f32) (ps0_18 : Vec F S1x512x256 .f32) (ps0_19 : Vec F S1x512x256 .f32) (ps0_20 : Vec F S1x512x256 .f32) (ps0_21 : Vec F S1x512x256 .f32) (ps0_22 : Vec F S1x512x256 .f32) (ps0_23 : Vec F S1x512x256 .f32) (ps0_24 : Vec F S1x512x256 .f32) :
    (kernelRun0_C (F := F) c i arg2 harg2 arg3 harg3 arg4 harg4 arg5 harg5 arg6 harg6 arg7 harg7 arg8 harg8 arg9 harg9 arg10 harg10 arg11 harg11 hc0 hc1 hc2 hl0 x0 x1 x2 x3 x4 x5 xs1 ps0_0 ps0_1 ps0_2 ps0_3 ps0_4 ps0_5 ps0_6 ps0_7 ps0_8 ps0_9 ps0_10 ps0_11 ps0_12 ps0_13 ps0_14 ps0_15 ps0_16 ps0_17 ps0_18 ps0_19 ps0_20 ps0_21 ps0_22 ps0_23 ps0_24).2.2.2.1
      = [⟨Rect.unit (s := S512x128) ![0, 0] S512x128.size inb_S512x128_S512x128_0_0, k0_pay40 x0 x1 x2 x3 x4 x5 xs1⟩] := by
  unfold kernelRun0_C
  dsimp only
  unfold kernelRun0_C.sl.HS1_1
  rw [read_whole arg2 harg2 x0 hz, read_whole arg3 harg3 x1 hz, read_whole arg4 harg4 x2 hz, read_whole arg5 harg5 x3 hz, read_whole arg6 harg6 x4 hz, read_whole arg7 harg7 x5 hz, read_whole arg11 harg11 xs1 hz]

set_option maxHeartbeats 4000000 in
/-- The codes the last point stores, tile by tile, the last tile first. -/
theorem piecesC6 (c : Dev nD) (i : grid0.Coords) (arg2 : Memref sig .tc .vmem S512x16384 .fp8e4m3) (harg2 : arg2.IsWhole) (arg3 : Memref sig .tc .vmem S512x1 .f32) (harg3 : arg3.IsWhole) (arg4 : Memref sig .tc .vmem S16384x256 .fp8e4m3) (harg4 : arg4.IsWhole) (arg5 : Memref sig .tc .vmem S16384x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S512x6656 .fp8e4m3) (harg8 : arg8.IsWhole) (arg9 : Memref sig .tc .vmem S512x1 .f32) (harg9 : arg9.IsWhole) (arg10 : Memref sig .tc .vmem S26x512x256 .f32) (harg10 : arg10.IsWhole) (arg11 : Memref sig .tc .vmem S512x128 .f32) (harg11 : arg11.IsWhole) (hc0 : ¬cond0_0 i) (hc1 : cond0_1 i) (hc2 : cond0_2 i) (hl0 : k0_off1 i = ![25, 0, 0]) (x0 : Vec F S512x16384 .fp8e4m3) (x1 : Vec F S512x1 .f32) (x2 : Vec F S16384x256 .fp8e4m3) (x3 : Vec F S16384x256 .fp8e4m3) (x4 : Vec F S1x256 .f32) (x5 : Vec F S1x256 .f32) (xs1 : Vec F S512x128 .f32) (ps0_0 : Vec F S1x512x256 .f32) (ps0_1 : Vec F S1x512x256 .f32) (ps0_2 : Vec F S1x512x256 .f32) (ps0_3 : Vec F S1x512x256 .f32) (ps0_4 : Vec F S1x512x256 .f32) (ps0_5 : Vec F S1x512x256 .f32) (ps0_6 : Vec F S1x512x256 .f32) (ps0_7 : Vec F S1x512x256 .f32) (ps0_8 : Vec F S1x512x256 .f32) (ps0_9 : Vec F S1x512x256 .f32) (ps0_10 : Vec F S1x512x256 .f32) (ps0_11 : Vec F S1x512x256 .f32) (ps0_12 : Vec F S1x512x256 .f32) (ps0_13 : Vec F S1x512x256 .f32) (ps0_14 : Vec F S1x512x256 .f32) (ps0_15 : Vec F S1x512x256 .f32) (ps0_16 : Vec F S1x512x256 .f32) (ps0_17 : Vec F S1x512x256 .f32) (ps0_18 : Vec F S1x512x256 .f32) (ps0_19 : Vec F S1x512x256 .f32) (ps0_20 : Vec F S1x512x256 .f32) (ps0_21 : Vec F S1x512x256 .f32) (ps0_22 : Vec F S1x512x256 .f32) (ps0_23 : Vec F S1x512x256 .f32) (ps0_24 : Vec F S1x512x256 .f32) :
    (kernelRun0_C (F := F) c i arg2 harg2 arg3 harg3 arg4 harg4 arg5 harg5 arg6 harg6 arg7 harg7 arg8 harg8 arg9 harg9 arg10 harg10 arg11 harg11 hc0 hc1 hc2 hl0 x0 x1 x2 x3 x4 x5 xs1 ps0_0 ps0_1 ps0_2 ps0_3 ps0_4 ps0_5 ps0_6 ps0_7 ps0_8 ps0_9 ps0_10 ps0_11 ps0_12 ps0_13 ps0_14 ps0_15 ps0_16 ps0_17 ps0_18 ps0_19 ps0_20 ps0_21 ps0_22 ps0_23 ps0_24).1
      = [⟨Rect.unit (s := S512x6656) ![0, 6400] ![512, 256] inb_S512x6656_S512x256_0_6400, k0_pay11 (recipOf (k0_pay40 x0 x1 x2 x3 x4 x5 xs1)) (k0_pay37 x0 x1 x2 x3 x4 x5)⟩,
        ⟨Rect.unit (s := S512x6656) ![0, 6144] ![512, 256] inb_S512x6656_S512x256_0_6144, k0_pay11 (recipOf (k0_pay40 x0 x1 x2 x3 x4 x5 xs1)) ps0_24⟩,
        ⟨Rect.unit (s := S512x6656) ![0, 5888] ![512, 256] inb_S512x6656_S512x256_0_5888, k0_pay11 (recipOf (k0_pay40 x0 x1 x2 x3 x4 x5 xs1)) ps0_23⟩,
        ⟨Rect.unit (s := S512x6656) ![0, 5632] ![512, 256] inb_S512x6656_S512x256_0_5632, k0_pay11 (recipOf (k0_pay40 x0 x1 x2 x3 x4 x5 xs1)) ps0_22⟩,
        ⟨Rect.unit (s := S512x6656) ![0, 5376] ![512, 256] inb_S512x6656_S512x256_0_5376, k0_pay11 (recipOf (k0_pay40 x0 x1 x2 x3 x4 x5 xs1)) ps0_21⟩,
        ⟨Rect.unit (s := S512x6656) ![0, 5120] ![512, 256] inb_S512x6656_S512x256_0_5120, k0_pay11 (recipOf (k0_pay40 x0 x1 x2 x3 x4 x5 xs1)) ps0_20⟩,
        ⟨Rect.unit (s := S512x6656) ![0, 4864] ![512, 256] inb_S512x6656_S512x256_0_4864, k0_pay11 (recipOf (k0_pay40 x0 x1 x2 x3 x4 x5 xs1)) ps0_19⟩,
        ⟨Rect.unit (s := S512x6656) ![0, 4608] ![512, 256] inb_S512x6656_S512x256_0_4608, k0_pay11 (recipOf (k0_pay40 x0 x1 x2 x3 x4 x5 xs1)) ps0_18⟩,
        ⟨Rect.unit (s := S512x6656) ![0, 4352] ![512, 256] inb_S512x6656_S512x256_0_4352, k0_pay11 (recipOf (k0_pay40 x0 x1 x2 x3 x4 x5 xs1)) ps0_17⟩,
        ⟨Rect.unit (s := S512x6656) ![0, 4096] ![512, 256] inb_S512x6656_S512x256_0_4096, k0_pay11 (recipOf (k0_pay40 x0 x1 x2 x3 x4 x5 xs1)) ps0_16⟩,
        ⟨Rect.unit (s := S512x6656) ![0, 3840] ![512, 256] inb_S512x6656_S512x256_0_3840, k0_pay11 (recipOf (k0_pay40 x0 x1 x2 x3 x4 x5 xs1)) ps0_15⟩,
        ⟨Rect.unit (s := S512x6656) ![0, 3584] ![512, 256] inb_S512x6656_S512x256_0_3584, k0_pay11 (recipOf (k0_pay40 x0 x1 x2 x3 x4 x5 xs1)) ps0_14⟩,
        ⟨Rect.unit (s := S512x6656) ![0, 3328] ![512, 256] inb_S512x6656_S512x256_0_3328, k0_pay11 (recipOf (k0_pay40 x0 x1 x2 x3 x4 x5 xs1)) ps0_13⟩,
        ⟨Rect.unit (s := S512x6656) ![0, 3072] ![512, 256] inb_S512x6656_S512x256_0_3072, k0_pay11 (recipOf (k0_pay40 x0 x1 x2 x3 x4 x5 xs1)) ps0_12⟩,
        ⟨Rect.unit (s := S512x6656) ![0, 2816] ![512, 256] inb_S512x6656_S512x256_0_2816, k0_pay11 (recipOf (k0_pay40 x0 x1 x2 x3 x4 x5 xs1)) ps0_11⟩,
        ⟨Rect.unit (s := S512x6656) ![0, 2560] ![512, 256] inb_S512x6656_S512x256_0_2560, k0_pay11 (recipOf (k0_pay40 x0 x1 x2 x3 x4 x5 xs1)) ps0_10⟩,
        ⟨Rect.unit (s := S512x6656) ![0, 2304] ![512, 256] inb_S512x6656_S512x256_0_2304, k0_pay11 (recipOf (k0_pay40 x0 x1 x2 x3 x4 x5 xs1)) ps0_9⟩,
        ⟨Rect.unit (s := S512x6656) ![0, 2048] ![512, 256] inb_S512x6656_S512x256_0_2048, k0_pay11 (recipOf (k0_pay40 x0 x1 x2 x3 x4 x5 xs1)) ps0_8⟩,
        ⟨Rect.unit (s := S512x6656) ![0, 1792] ![512, 256] inb_S512x6656_S512x256_0_1792, k0_pay11 (recipOf (k0_pay40 x0 x1 x2 x3 x4 x5 xs1)) ps0_7⟩,
        ⟨Rect.unit (s := S512x6656) ![0, 1536] ![512, 256] inb_S512x6656_S512x256_0_1536, k0_pay11 (recipOf (k0_pay40 x0 x1 x2 x3 x4 x5 xs1)) ps0_6⟩,
        ⟨Rect.unit (s := S512x6656) ![0, 1280] ![512, 256] inb_S512x6656_S512x256_0_1280, k0_pay11 (recipOf (k0_pay40 x0 x1 x2 x3 x4 x5 xs1)) ps0_5⟩,
        ⟨Rect.unit (s := S512x6656) ![0, 1024] ![512, 256] inb_S512x6656_S512x256_0_1024, k0_pay11 (recipOf (k0_pay40 x0 x1 x2 x3 x4 x5 xs1)) ps0_4⟩,
        ⟨Rect.unit (s := S512x6656) ![0, 768] ![512, 256] inb_S512x6656_S512x256_0_768, k0_pay11 (recipOf (k0_pay40 x0 x1 x2 x3 x4 x5 xs1)) ps0_3⟩,
        ⟨Rect.unit (s := S512x6656) ![0, 512] ![512, 256] inb_S512x6656_S512x256_0_512, k0_pay11 (recipOf (k0_pay40 x0 x1 x2 x3 x4 x5 xs1)) ps0_2⟩,
        ⟨Rect.unit (s := S512x6656) ![0, 256] ![512, 256] inb_S512x6656_S512x256_0_256, k0_pay11 (recipOf (k0_pay40 x0 x1 x2 x3 x4 x5 xs1)) ps0_1⟩,
        ⟨Rect.unit (s := S512x6656) ![0, 0] ![512, 256] inb_S512x6656_S512x256_0_0, k0_pay11 (recipOf (k0_pay40 x0 x1 x2 x3 x4 x5 xs1)) ps0_0⟩] := by
  unfold kernelRun0_C
  dsimp only
  unfold kernelRun0_C.sl.r_5 kernelRun0_C.sl.r_6 kernelRun0_C.sl.r_7 kernelRun0_C.sl.r_8 kernelRun0_C.sl.r_9
  rw [tile_read c i arg2 harg2 arg3 harg3 arg4 harg4 arg5 harg5 arg6 harg6 arg7 harg7 arg8 harg8 arg9 harg9 arg10 harg10 arg11 harg11 hl0, recip_read c arg2 harg2 arg3 harg3 arg4 harg4 arg5 harg5 arg6 harg6 arg7 harg7 arg8 harg8 arg9 harg9 arg10 harg10 arg11 harg11]
  unfold kernelRun0_C.sl.r_3 kernelRun0_C.sl.r kernelRun0_C.sl.r_1 kernelRun0_C.sl.r_2
  rw [maxima_read c arg2 harg2 arg3 harg3 arg4 harg4 arg5 harg5 arg6 harg6 arg7 harg7 arg8 harg8 arg9 harg9 arg10 harg10 arg11 harg11]
  generalize (k0_pay37 x0 x1 x2 x3 x4 x5) = t
  generalize (k0_pay40 x0 x1 x2 x3 x4 x5 xs1) = v
  rfl

set_option maxHeartbeats 4000000 in
/-- What the stores of the codes leave: all the columns of the block. -/
theorem codes_read (arg8 : Memref sig .tc .vmem S512x6656 .fp8e4m3) (f : arg8.view.ty.Contents (Elt F)) (v : Vec F S512x128 .f32) (t : Vec F S1x512x256 .f32) (xs0 : Vec F S26x512x256 .f32) :
    arg8.view.read (Elt F) (arg8.view.writes (Elt F) f
      [⟨Rect.unit (s := S512x6656) ![0, 6400] ![512, 256] inb_S512x6656_S512x256_0_6400, k0_pay11 (recipOf v) t⟩,
        ⟨Rect.unit (s := S512x6656) ![0, 6144] ![512, 256] inb_S512x6656_S512x256_0_6144, k0_pay11 (recipOf v) (slice xs0 24)⟩,
        ⟨Rect.unit (s := S512x6656) ![0, 5888] ![512, 256] inb_S512x6656_S512x256_0_5888, k0_pay11 (recipOf v) (slice xs0 23)⟩,
        ⟨Rect.unit (s := S512x6656) ![0, 5632] ![512, 256] inb_S512x6656_S512x256_0_5632, k0_pay11 (recipOf v) (slice xs0 22)⟩,
        ⟨Rect.unit (s := S512x6656) ![0, 5376] ![512, 256] inb_S512x6656_S512x256_0_5376, k0_pay11 (recipOf v) (slice xs0 21)⟩,
        ⟨Rect.unit (s := S512x6656) ![0, 5120] ![512, 256] inb_S512x6656_S512x256_0_5120, k0_pay11 (recipOf v) (slice xs0 20)⟩,
        ⟨Rect.unit (s := S512x6656) ![0, 4864] ![512, 256] inb_S512x6656_S512x256_0_4864, k0_pay11 (recipOf v) (slice xs0 19)⟩,
        ⟨Rect.unit (s := S512x6656) ![0, 4608] ![512, 256] inb_S512x6656_S512x256_0_4608, k0_pay11 (recipOf v) (slice xs0 18)⟩,
        ⟨Rect.unit (s := S512x6656) ![0, 4352] ![512, 256] inb_S512x6656_S512x256_0_4352, k0_pay11 (recipOf v) (slice xs0 17)⟩,
        ⟨Rect.unit (s := S512x6656) ![0, 4096] ![512, 256] inb_S512x6656_S512x256_0_4096, k0_pay11 (recipOf v) (slice xs0 16)⟩,
        ⟨Rect.unit (s := S512x6656) ![0, 3840] ![512, 256] inb_S512x6656_S512x256_0_3840, k0_pay11 (recipOf v) (slice xs0 15)⟩,
        ⟨Rect.unit (s := S512x6656) ![0, 3584] ![512, 256] inb_S512x6656_S512x256_0_3584, k0_pay11 (recipOf v) (slice xs0 14)⟩,
        ⟨Rect.unit (s := S512x6656) ![0, 3328] ![512, 256] inb_S512x6656_S512x256_0_3328, k0_pay11 (recipOf v) (slice xs0 13)⟩,
        ⟨Rect.unit (s := S512x6656) ![0, 3072] ![512, 256] inb_S512x6656_S512x256_0_3072, k0_pay11 (recipOf v) (slice xs0 12)⟩,
        ⟨Rect.unit (s := S512x6656) ![0, 2816] ![512, 256] inb_S512x6656_S512x256_0_2816, k0_pay11 (recipOf v) (slice xs0 11)⟩,
        ⟨Rect.unit (s := S512x6656) ![0, 2560] ![512, 256] inb_S512x6656_S512x256_0_2560, k0_pay11 (recipOf v) (slice xs0 10)⟩,
        ⟨Rect.unit (s := S512x6656) ![0, 2304] ![512, 256] inb_S512x6656_S512x256_0_2304, k0_pay11 (recipOf v) (slice xs0 9)⟩,
        ⟨Rect.unit (s := S512x6656) ![0, 2048] ![512, 256] inb_S512x6656_S512x256_0_2048, k0_pay11 (recipOf v) (slice xs0 8)⟩,
        ⟨Rect.unit (s := S512x6656) ![0, 1792] ![512, 256] inb_S512x6656_S512x256_0_1792, k0_pay11 (recipOf v) (slice xs0 7)⟩,
        ⟨Rect.unit (s := S512x6656) ![0, 1536] ![512, 256] inb_S512x6656_S512x256_0_1536, k0_pay11 (recipOf v) (slice xs0 6)⟩,
        ⟨Rect.unit (s := S512x6656) ![0, 1280] ![512, 256] inb_S512x6656_S512x256_0_1280, k0_pay11 (recipOf v) (slice xs0 5)⟩,
        ⟨Rect.unit (s := S512x6656) ![0, 1024] ![512, 256] inb_S512x6656_S512x256_0_1024, k0_pay11 (recipOf v) (slice xs0 4)⟩,
        ⟨Rect.unit (s := S512x6656) ![0, 768] ![512, 256] inb_S512x6656_S512x256_0_768, k0_pay11 (recipOf v) (slice xs0 3)⟩,
        ⟨Rect.unit (s := S512x6656) ![0, 512] ![512, 256] inb_S512x6656_S512x256_0_512, k0_pay11 (recipOf v) (slice xs0 2)⟩,
        ⟨Rect.unit (s := S512x6656) ![0, 256] ![512, 256] inb_S512x6656_S512x256_0_256, k0_pay11 (recipOf v) (slice xs0 1)⟩,
        ⟨Rect.unit (s := S512x6656) ![0, 0] ![512, 256] inb_S512x6656_S512x256_0_0, k0_pay11 (recipOf v) (slice xs0 0)⟩])
      = codesOf (recipOf v) (fun j => if j = 25 then t else slice xs0 j) := by
  funext y
  refine View.read_writes_apply_of_pieces _ _ _ _ ?_ y (View.cover_of_tiled _ ![512, 256] (by rfl) y)
  generalize hS : (fun j : Fin 26 => if j = 25 then t else slice xs0 j) = S
  have e (j : Fin 26) : S j = if j = 25 then t else slice xs0 j := by rw [← hS]
  intro p hp x
  simp only [List.mem_cons, List.not_mem_nil, or_false] at hp
  rcases hp with rfl|rfl|rfl|rfl|rfl|rfl|rfl|rfl|rfl|rfl|rfl|rfl|rfl|rfl|rfl|rfl|rfl|rfl|rfl|rfl|rfl|rfl|rfl|rfl|rfl|rfl
  · exact piece_eq (recipOf v) S 25 rfl ((e _).trans (if_pos rfl)) (by decide) inb_S512x6656_S512x256_0_6400 x
  · exact piece_eq (recipOf v) S 24 rfl ((e _).trans (if_neg (by decide))) (by decide) inb_S512x6656_S512x256_0_6144 x
  · exact piece_eq (recipOf v) S 23 rfl ((e _).trans (if_neg (by decide))) (by decide) inb_S512x6656_S512x256_0_5888 x
  · exact piece_eq (recipOf v) S 22 rfl ((e _).trans (if_neg (by decide))) (by decide) inb_S512x6656_S512x256_0_5632 x
  · exact piece_eq (recipOf v) S 21 rfl ((e _).trans (if_neg (by decide))) (by decide) inb_S512x6656_S512x256_0_5376 x
  · exact piece_eq (recipOf v) S 20 rfl ((e _).trans (if_neg (by decide))) (by decide) inb_S512x6656_S512x256_0_5120 x
  · exact piece_eq (recipOf v) S 19 rfl ((e _).trans (if_neg (by decide))) (by decide) inb_S512x6656_S512x256_0_4864 x
  · exact piece_eq (recipOf v) S 18 rfl ((e _).trans (if_neg (by decide))) (by decide) inb_S512x6656_S512x256_0_4608 x
  · exact piece_eq (recipOf v) S 17 rfl ((e _).trans (if_neg (by decide))) (by decide) inb_S512x6656_S512x256_0_4352 x
  · exact piece_eq (recipOf v) S 16 rfl ((e _).trans (if_neg (by decide))) (by decide) inb_S512x6656_S512x256_0_4096 x
  · exact piece_eq (recipOf v) S 15 rfl ((e _).trans (if_neg (by decide))) (by decide) inb_S512x6656_S512x256_0_3840 x
  · exact piece_eq (recipOf v) S 14 rfl ((e _).trans (if_neg (by decide))) (by decide) inb_S512x6656_S512x256_0_3584 x
  · exact piece_eq (recipOf v) S 13 rfl ((e _).trans (if_neg (by decide))) (by decide) inb_S512x6656_S512x256_0_3328 x
  · exact piece_eq (recipOf v) S 12 rfl ((e _).trans (if_neg (by decide))) (by decide) inb_S512x6656_S512x256_0_3072 x
  · exact piece_eq (recipOf v) S 11 rfl ((e _).trans (if_neg (by decide))) (by decide) inb_S512x6656_S512x256_0_2816 x
  · exact piece_eq (recipOf v) S 10 rfl ((e _).trans (if_neg (by decide))) (by decide) inb_S512x6656_S512x256_0_2560 x
  · exact piece_eq (recipOf v) S 9 rfl ((e _).trans (if_neg (by decide))) (by decide) inb_S512x6656_S512x256_0_2304 x
  · exact piece_eq (recipOf v) S 8 rfl ((e _).trans (if_neg (by decide))) (by decide) inb_S512x6656_S512x256_0_2048 x
  · exact piece_eq (recipOf v) S 7 rfl ((e _).trans (if_neg (by decide))) (by decide) inb_S512x6656_S512x256_0_1792 x
  · exact piece_eq (recipOf v) S 6 rfl ((e _).trans (if_neg (by decide))) (by decide) inb_S512x6656_S512x256_0_1536 x
  · exact piece_eq (recipOf v) S 5 rfl ((e _).trans (if_neg (by decide))) (by decide) inb_S512x6656_S512x256_0_1280 x
  · exact piece_eq (recipOf v) S 4 rfl ((e _).trans (if_neg (by decide))) (by decide) inb_S512x6656_S512x256_0_1024 x
  · exact piece_eq (recipOf v) S 3 rfl ((e _).trans (if_neg (by decide))) (by decide) inb_S512x6656_S512x256_0_768 x
  · exact piece_eq (recipOf v) S 2 rfl ((e _).trans (if_neg (by decide))) (by decide) inb_S512x6656_S512x256_0_512 x
  · exact piece_eq (recipOf v) S 1 rfl ((e _).trans (if_neg (by decide))) (by decide) inb_S512x6656_S512x256_0_256 x
  · exact piece_eq (recipOf v) S 0 rfl ((e _).trans (if_neg (by decide))) (by decide) inb_S512x6656_S512x256_0_0 x

set_option maxHeartbeats 4000000 in
/-- The body's triple at the last point of a row block: the last tile joins the other 25, and all the block's codes and
scales are stored. -/
theorem bodyC (c : Dev nD) (i : grid0.Coords) (arg2 : Memref sig .tc .vmem S512x16384 .fp8e4m3) (harg2 : arg2.IsWhole) (arg3 : Memref sig .tc .vmem S512x1 .f32) (harg3 : arg3.IsWhole) (arg4 : Memref sig .tc .vmem S16384x256 .fp8e4m3) (harg4 : arg4.IsWhole) (arg5 : Memref sig .tc .vmem S16384x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S512x6656 .fp8e4m3) (harg8 : arg8.IsWhole) (arg9 : Memref sig .tc .vmem S512x1 .f32) (harg9 : arg9.IsWhole) (arg10 : Memref sig .tc .vmem S26x512x256 .f32) (harg10 : arg10.IsWhole) (arg11 : Memref sig .tc .vmem S512x128 .f32) (harg11 : arg11.IsWhole) (hc0 : ¬cond0_0 i) (hc1 : cond0_1 i) (hc2 : cond0_2 i) (hl0 : k0_off1 i = ![25, 0, 0]) (x0 : Vec F S512x16384 .fp8e4m3) (x1 : Vec F S512x1 .f32) (x2 : Vec F S16384x256 .fp8e4m3) (x3 : Vec F S16384x256 .fp8e4m3) (x4 : Vec F S1x256 .f32) (x5 : Vec F S1x256 .f32) (xs1 : Vec F S512x128 .f32) (xs0 : Vec F S26x512x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (codesOf (recipOf (k0_pay40 x0 x1 x2 x3 x4 x5 xs1)) (fun j => if j = 25 then (k0_pay37 x0 x1 x2 x3 x4 x5) else slice xs0 j)) ∗ owns (c : Thread nD τ) arg9 fullShare (scaleOf (k0_pay40 x0 x1 x2 x3 x4 x5 xs1))
            ∗ (∃ d, owns (c : Thread nD τ) arg10 fullShare d) ∗ (∃ d, owns (c : Thread nD τ) arg11 fullShare d)) -∗ K ⟨⟩))
      ⊢ wp frame (wpE (defs₀ (F := F)) Variants.none c none) E (cc0__gate_up_kernel i arg2 harg2 arg3 harg3 arg4 harg4 arg5 harg5 arg6 harg6 arg7 harg7 arg8 harg8 arg9 harg9 arg10 harg10 arg11 harg11) K := by
  iintro ⟨H0, H1, H2, H3, H4, H5, H6, H7, HS0, HS1, Hk⟩
  iapply ((kernelRun0_C (F := F) c i arg2 harg2 arg3 harg3 arg4 harg4 arg5 harg5 arg6 harg6 arg7 harg7 arg8 harg8 arg9 harg9 arg10 harg10 arg11 harg11 hc0 hc1 hc2 hl0 x0 x1 x2 x3 x4 x5 xs1 (slice xs0 0) (slice xs0 1) (slice xs0 2) (slice xs0 3) (slice xs0 4) (slice xs0 5) (slice xs0 6) (slice xs0 7) (slice xs0 8) (slice xs0 9) (slice xs0 10) (slice xs0 11) (slice xs0 12) (slice xs0 13) (slice xs0 14) (slice xs0 15) (slice xs0 16) (slice xs0 17) (slice xs0 18) (slice xs0 19) (slice xs0 20) (slice xs0 21) (slice xs0 22) (slice xs0 23) (slice xs0 24)).2.2.2.2 xs0 (read_slice arg10 harg10 xs0 0 rfl _) (read_slice arg10 harg10 xs0 1 rfl _) (read_slice arg10 harg10 xs0 2 rfl _) (read_slice arg10 harg10 xs0 3 rfl _) (read_slice arg10 harg10 xs0 4 rfl _) (read_slice arg10 harg10 xs0 5 rfl _) (read_slice arg10 harg10 xs0 6 rfl _) (read_slice arg10 harg10 xs0 7 rfl _) (read_slice arg10 harg10 xs0 8 rfl _) (read_slice arg10 harg10 xs0 9 rfl _) (read_slice arg10 harg10 xs0 10 rfl _) (read_slice arg10 harg10 xs0 11 rfl _) (read_slice arg10 harg10 xs0 12 rfl _) (read_slice arg10 harg10 xs0 13 rfl _) (read_slice arg10 harg10 xs0 14 rfl _) (read_slice arg10 harg10 xs0 15 rfl _) (read_slice arg10 harg10 xs0 16 rfl _) (read_slice arg10 harg10 xs0 17 rfl _) (read_slice arg10 harg10 xs0 18 rfl _) (read_slice arg10 harg10 xs0 19 rfl _) (read_slice arg10 harg10 xs0 20 rfl _) (read_slice arg10 harg10 xs0 21 rfl _) (read_slice arg10 harg10 xs0 22 rfl _) (read_slice arg10 harg10 xs0 23 rfl _) (read_slice arg10 harg10 xs0 24 rfl _) E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  iintro ⟨H0, H1, H2, H3, H4, H5, ⟨%f6, H6⟩, ⟨%f7, H7⟩, HS0, ⟨%f1, HS1⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro
    exact (congrArg (fun L => arg8.view.read (Elt F) (arg8.view.writes (Elt F) f6 L))
      (piecesC6 (F := F) c i arg2 harg2 arg3 harg3 arg4 harg4 arg5 harg5 arg6 harg6 arg7 harg7 arg8 harg8 arg9 harg9 arg10 harg10 arg11 harg11 hc0 hc1 hc2 hl0 x0 x1 x2 x3 x4 x5 xs1 (slice xs0 0) (slice xs0 1) (slice xs0 2) (slice xs0 3) (slice xs0 4) (slice xs0 5) (slice xs0 6) (slice xs0 7) (slice xs0 8) (slice xs0 9) (slice xs0 10) (slice xs0 11) (slice xs0 12) (slice xs0 13) (slice xs0 14) (slice xs0 15) (slice xs0 16) (slice xs0 17) (slice xs0 18) (slice xs0 19) (slice xs0 20) (slice xs0 21) (slice xs0 22) (slice xs0 23) (slice xs0 24))).trans (codes_read arg8 f6 (k0_pay40 x0 x1 x2 x3 x4 x5 xs1) (k0_pay37 x0 x1 x2 x3 x4 x5) xs0)
  isplitl [H7]
  · unfold owns; iexists _; isplitr
    swap; · iexact H7
    ipureintro
    exact (congrArg (fun L => arg9.view.read (Elt F) (arg9.view.writes (Elt F) f7 L))
      (piecesC7 (F := F) c i arg2 harg2 arg3 harg3 arg4 harg4 arg5 harg5 arg6 harg6 arg7 harg7 arg8 harg8 arg9 harg9 arg10 harg10 arg11 harg11 hc0 hc1 hc2 hl0 x0 x1 x2 x3 x4 x5 xs1 (slice xs0 0) (slice xs0 1) (slice xs0 2) (slice xs0 3) (slice xs0 4) (slice xs0 5) (slice xs0 6) (slice xs0 7) (slice xs0 8) (slice xs0 9) (slice xs0 10) (slice xs0 11) (slice xs0 12) (slice xs0 13) (slice xs0 14) (slice xs0 15) (slice xs0 16) (slice xs0 17) (slice xs0 18) (slice xs0 19) (slice xs0 20) (slice xs0 21) (slice xs0 22) (slice xs0 23) (slice xs0 24))).trans (View.read_writes_full _ _ _ _ _)
  isplitl [HS0]
  · iexists _
    unfold owns; iexists _; isplitr
    swap; · iexact HS0
    ipureintro; rfl
  iexists _
  unfold owns; iexists _; isplitr
  swap; · iexact HS1
  ipureintro; rfl

end Cert.GateUpIdeal.Hand

end
-- ==== Proof.GateFrame.lean ====
module

public import proofs.«01_k».proof.Proof.GateBodyC

@[expose] public section

set_option maxRecDepth 16384

noncomputable section

namespace Cert.GateUpIdeal.Hand

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the scratch holds -/

/-- Where a point's tile is stored. -/
theorem off_eq : ∀ t : Fin cfg0.N, k0_off1 (grid0.coords t) = ![t.val % 26, 0, 0] := by decide +kernel

/-- The tile of point `t`. -/
def tileAt (c : Dev nD) (t : Fin cfg0.N) : Vec F S1x512x256 .f32 := k0_pay37 (iblk m c 0 t) (iblk m c 1 t) (iblk m c 2 t) (iblk m c 3 t) (iblk m c 4 t) (iblk m c 5 t)

/-- Point `j` of the row block of `t`. -/
def pt (t : Fin cfg0.N) (j : Fin 26) : Fin cfg0.N :=
  ⟨26 * (t.val / 26) + j.val, by have h : t.val < 156 := lt_of_lt_of_eq t.isLt N_0; exact lt_of_lt_of_eq (by omega : 26 * (t.val / 26) + j.val < 156) (Eq.symm N_0)⟩

/-- The running lane maxima after point `n`. -/
def maxN (c : Dev nD) : (n : ℕ) → n < cfg0.N → Vec F S512x128 .f32
  | 0, h => let t : Fin cfg0.N := ⟨0, h⟩; k0_pay39 (iblk m c 0 t) (iblk m c 1 t) (iblk m c 2 t) (iblk m c 3 t) (iblk m c 4 t) (iblk m c 5 t)
  | n + 1, h => let t : Fin cfg0.N := ⟨n + 1, h⟩
    if (n + 1) % 26 = 0 then k0_pay39 (iblk m c 0 t) (iblk m c 1 t) (iblk m c 2 t) (iblk m c 3 t) (iblk m c 4 t) (iblk m c 5 t) else k0_pay40 (iblk m c 0 t) (iblk m c 1 t) (iblk m c 2 t) (iblk m c 3 t) (iblk m c 4 t) (iblk m c 5 t) (maxN c n (by omega))

/-- The running lane maxima after point `t`. -/
def maxAt (c : Dev nD) (t : Fin cfg0.N) : Vec F S512x128 .f32 := maxN m c t.val t.isLt

theorem maxAt_zero (c : Dev nD) (t : Fin cfg0.N) (h : t.val % 26 = 0) : maxAt m c t = k0_pay39 (iblk m c 0 t) (iblk m c 1 t) (iblk m c 2 t) (iblk m c 3 t) (iblk m c 4 t) (iblk m c 5 t) := by
  obtain ⟨n, hn⟩ := t
  cases n with
  | zero => rfl
  | succ n => exact if_pos h

theorem maxAt_succ (c : Dev nD) (t : Fin cfg0.N) (h : ¬t.val % 26 = 0) :
    maxAt m c t = k0_pay40 (iblk m c 0 t) (iblk m c 1 t) (iblk m c 2 t) (iblk m c 3 t) (iblk m c 4 t) (iblk m c 5 t) (maxAt m c ⟨t.val - 1, by omega⟩) := by
  obtain ⟨n, hn⟩ := t
  cases n with
  | zero => exact absurd rfl h
  | succ n => exact if_neg h

/-- Before point `n` the scratch holds the tiles of the points of this row block so far, and their running lane maxima. -/
def Inv (c : Dev nD) (n : ℕ) (d0 : Vec F S26x512x256 .f32) (d1 : Vec F S512x128 .f32) : Prop :=
  (∀ (j : Fin 26) (s : Fin cfg0.N), s.val = 26 * (n / 26) + j.val → j.val < n % 26 → slice d0 j = tileAt m c s)
    ∧ (n % 26 ≠ 0 → ∀ s : Fin cfg0.N, s.val + 1 = n → d1 = maxAt m c s)

theorem inv_A (c : Dev nD) (t : Fin cfg0.N) (h0 : t.val % 26 = 0) (d dN : Vec F S26x512x256 .f32)
    (hd : ∀ j : Fin 26, slice dN j = if j = ⟨0, by omega⟩ then k0_pay37 (iblk m c 0 t) (iblk m c 1 t) (iblk m c 2 t) (iblk m c 3 t) (iblk m c 4 t) (iblk m c 5 t) else slice d j) :
    Inv m c (t.val + 1) dN (k0_pay39 (iblk m c 0 t) (iblk m c 1 t) (iblk m c 2 t) (iblk m c 3 t) (iblk m c 4 t) (iblk m c 5 t)) := by
  refine ⟨fun j s hs hj => ?_, fun _ s hs => ?_⟩
  · have hj0 : j = ⟨0, by omega⟩ := Fin.ext (by show j.val = 0; omega)
    have e : s = t := Fin.ext (by omega)
    subst e
    rw [hd, if_pos hj0]; rfl
  · have e : s = t := Fin.ext (by omega)
    subst e
    exact (maxAt_zero m c s h0).symm

theorem inv_B (c : Dev nD) (t : Fin cfg0.N) (h0 : ¬t.val % 26 = 0) (h2 : ¬t.val % 26 = 25) (d dN : Vec F S26x512x256 .f32)
    (hp : ∀ (j : Fin 26) (s : Fin cfg0.N), s.val = 26 * (t.val / 26) + j.val → j.val < t.val % 26 → slice d j = tileAt m c s)
    (hd : ∀ j : Fin 26, slice dN j = if j = ⟨t.val % 26, by omega⟩ then k0_pay37 (iblk m c 0 t) (iblk m c 1 t) (iblk m c 2 t) (iblk m c 3 t) (iblk m c 4 t) (iblk m c 5 t) else slice d j) :
    Inv m c (t.val + 1) dN (k0_pay40 (iblk m c 0 t) (iblk m c 1 t) (iblk m c 2 t) (iblk m c 3 t) (iblk m c 4 t) (iblk m c 5 t) (maxAt m c ⟨t.val - 1, by omega⟩)) := by
  refine ⟨fun j s hs hj => ?_, fun _ s hs => ?_⟩
  · rw [hd]
    split
    · rename_i hj0
      have hj1 : j.val = t.val % 26 := congrArg Fin.val hj0
      have e : s = t := Fin.ext (by omega)
      subst e
      rfl
    · rename_i hj0
      have hj1 : j.val ≠ t.val % 26 := fun e => hj0 (Fin.ext e)
      exact hp j s (by omega) (by omega)
  · have e : s = t := Fin.ext (by omega)
    subst e
    exact (maxAt_succ m c s h0).symm

/-- At the last point of a row block the 26 tiles are those of the block's points. -/
theorem tiles_last (c : Dev nD) (t : Fin cfg0.N) (h2 : t.val % 26 = 25) (d : Vec F S26x512x256 .f32)
    (hp : ∀ (j : Fin 26) (s : Fin cfg0.N), s.val = 26 * (t.val / 26) + j.val → j.val < t.val % 26 → slice d j = tileAt m c s) :
    (fun j => tileAt m c (pt t j)) = (fun j => if j = 25 then k0_pay37 (iblk m c 0 t) (iblk m c 1 t) (iblk m c 2 t) (iblk m c 3 t) (iblk m c 4 t) (iblk m c 5 t) else slice d j) := by
  funext j
  split
  · rename_i hj
    have e : pt t j = t := Fin.ext (by subst hj; show 26 * (t.val / 26) + 25 = t.val; omega)
    rw [e]; rfl
  · rename_i hj
    have hj1 : j.val ≠ 25 := fun e => hj (Fin.ext e)
    exact (hp j _ rfl (by omega)).symm

/-- The invariant before point `n`: the scratch is held at contents `Inv` speaks of, and the generator register at some state. -/
def PhiS (c : Dev nD) (n : ℕ) (h : n ≤ cfg0.N) : sProp 𝕄 :=
  iprop(∃ d0 d1, ⌜Inv m c n d0 d1⌝ ∗ iprop(owns (c : Thread nD τ) scM0_0 fullShare d0 ∗ owns (c : Thread nD τ) scM0_1 fullShare d1) ∗ (∃ r, prngReg c r))

/-! ## The pipeline's proof data -/

/-- The proof data of the one pipeline on core `c`: the arrays as the region finds them; after the body at point `t` each
input's buffer at its block, and the outputs' at the codes and scales of the row block (stored at the block's last point);
the invariant `PhiS`; each input's share of its array. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => codesOf (recipOf (maxAt m c t)) (fun j => tileAt m c (pt t j))
    | ⟨7, _⟩ => scaleOf (maxAt m c t)
  Φ t := PhiS m c t.val (Nat.le_of_lt_succ t.isLt)
  q w := Pipeline.shareOf spec0 w
  owed _ := 0

/-- The proof data's arrays are the region-entry contents: the proof data projected. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = codesOf (recipOf (maxAt m c t)) (fun j => tileAt m c (pt t j)) := by dsimp only [dats]
theorem after0_7 (c : Dev nD) (t : Fin cfg0.N) : (dats m 0 c).after 7 t = scaleOf (maxAt m c t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4000000 in
/-- The body at the first point of a row block. -/
theorem sound_A (c : Dev nD) (t : Fin cfg0.N) (h0 : t.val % 26 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_castSucc m c t]
  unfold PhiS
  have hN : t.val < 156 := lt_of_lt_of_eq t.isLt (show cfg0.N = 156 from N_0)
  have h1 : ¬1 ≤ t.val % 26 := by omega
  have h2 : ¬t.val % 26 = 25 := by omega
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [Dat.leavesExact_idle (dats m 0 c) 6 t (idleAt0_6_A t ((hcond0_0 t).mpr h0) (fun h => h1 ((hcond0_1 t).mp h)) (fun h => h2 ((hcond0_2 t).mp h))) (noFlush0_6_A t ((hcond0_0 t).mpr h0) (fun h => h1 ((hcond0_1 t).mp h)) (fun h => h2 ((hcond0_2 t).mp h)))]
  rw [Dat.leavesExact_idle (dats m 0 c) 7 t (idleAt0_7_A t ((hcond0_0 t).mpr h0) (fun h => h1 ((hcond0_1 t).mp h)) (fun h => h2 ((hcond0_2 t).mp h))) (noFlush0_7_A t ((hcond0_0 t).mpr h0) (fun h => h1 ((hcond0_1 t).mp h)) (fun h => h2 ((hcond0_2 t).mp h)))]
  iintro ⟨⟨%dS0, %dS1, %hinv, ⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (bodyA c (grid0.coords t) _ _ _ _ _ _ _ _ _ _ _ _ _ _ _ _ _ _ _ _ ((hcond0_0 t).mpr h0) (fun h => h1 ((hcond0_1 t).mp h)) (fun h => h2 ((hcond0_2 t).mp h)) ⟨0, by omega⟩ (by rw [off_eq t, h0]) (iblk m c 0 t) (iblk m c 1 t) (iblk m c 2 t) (iblk m c 3 t) (iblk m c 4 t) (iblk m c 5 t) dS0 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexists _; iexact HS1
  iintro ⟨H0, H1, H2, H3, H4, H5, H6, H7, ⟨%dN, %hd, HS0⟩, HS1⟩
  isplitl [HS0 HS1 Hg]
  · iexists dN, _
    isplitr
    swap
    · isplitl [HS0 HS1]
      · isplitl [HS0]; · iexact HS0
        iexact HS1
      iexact Hg
    ipureintro
    exact inv_A m c t h0 dS0 dN hd
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexists _; iexact H7

set_option maxHeartbeats 4000000 in
/-- The body at a middle point of a row block. -/
theorem sound_B (c : Dev nD) (t : Fin cfg0.N) (h0 : ¬t.val % 26 = 0) (h2 : ¬t.val % 26 = 25) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_castSucc m c t]
  unfold PhiS
  have hN : t.val < 156 := lt_of_lt_of_eq t.isLt (show cfg0.N = 156 from N_0)
  have h1 : 1 ≤ t.val % 26 := by omega
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [Dat.leavesExact_idle (dats m 0 c) 6 t (idleAt0_6_B t (fun h => h0 ((hcond0_0 t).mp h)) ((hcond0_1 t).mpr h1) (fun h => h2 ((hcond0_2 t).mp h))) (noFlush0_6_B t (fun h => h0 ((hcond0_0 t).mp h)) ((hcond0_1 t).mpr h1) (fun h => h2 ((hcond0_2 t).mp h)))]
  rw [Dat.leavesExact_idle (dats m 0 c) 7 t (idleAt0_7_B t (fun h => h0 ((hcond0_0 t).mp h)) ((hcond0_1 t).mpr h1) (fun h => h2 ((hcond0_2 t).mp h))) (noFlush0_7_B t (fun h => h0 ((hcond0_0 t).mp h)) ((hcond0_1 t).mpr h1) (fun h => h2 ((hcond0_2 t).mp h)))]
  iintro ⟨⟨%dS0, %dS1, %hinv, ⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have e1 := hinv.2 (by omega) ⟨t.val - 1, by omega⟩ (by show t.val - 1 + 1 = t.val; omega)
  subst e1
  iapply (bodyB c (grid0.coords t) _ _ _ _ _ _ _ _ _ _ _ _ _ _ _ _ _ _ _ _ (fun h => h0 ((hcond0_0 t).mp h)) ((hcond0_1 t).mpr h1) (fun h => h2 ((hcond0_2 t).mp h)) ⟨t.val % 26, by omega⟩ (off_eq t) (iblk m c 0 t) (iblk m c 1 t) (iblk m c 2 t) (iblk m c 3 t) (iblk m c 4 t) (iblk m c 5 t) _ dS0 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  iintro ⟨H0, H1, H2, H3, H4, H5, H6, H7, ⟨%dN, %hd, HS0⟩, HS1⟩
  isplitl [HS0 HS1 Hg]
  · iexists dN, _
    isplitr
    swap
    · isplitl [HS0 HS1]
      · isplitl [HS0]; · iexact HS0
        iexact HS1
      iexact Hg
    ipureintro
    exact inv_B m c t h0 h2 dS0 dN hinv.1 hd
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexists _; iexact H7

set_option maxHeartbeats 4000000 in
/-- The body at the last point of a row block. -/
theorem sound_C (c : Dev nD) (t : Fin cfg0.N) (h2 : t.val % 26 = 25) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_castSucc m c t]
  unfold PhiS
  have hN : t.val < 156 := lt_of_lt_of_eq t.isLt (show cfg0.N = 156 from N_0)
  have h0 : ¬t.val % 26 = 0 := by omega
  have h1 : 1 ≤ t.val % 26 := by omega
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6_C t (fun h => h0 ((hcond0_0 t).mp h)) ((hcond0_1 t).mpr h1) ((hcond0_2 t).mpr h2)], after0_6]
  rw [show (dats m 0 c).leavesExact 7 t = owns (c : Thread nD τ) (ms0_7 t) fullShare ((dats m 0 c).after 7 t) from by
    unfold Dat.leavesExact; rw [liveAt0_7_C t (fun h => h0 ((hcond0_0 t).mp h)) ((hcond0_1 t).mpr h1) ((hcond0_2 t).mpr h2)], after0_7]
  iintro ⟨⟨%dS0, %dS1, %hinv, ⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have e1 := hinv.2 (by omega) ⟨t.val - 1, by omega⟩ (by show t.val - 1 + 1 = t.val; omega)
  subst e1
  have eo6 : codesOf (recipOf (maxAt m c t)) (fun j => tileAt m c (pt t j)) = codesOf (recipOf (k0_pay40 (iblk m c 0 t) (iblk m c 1 t) (iblk m c 2 t) (iblk m c 3 t) (iblk m c 4 t) (iblk m c 5 t) (maxAt m c ⟨t.val - 1, by omega⟩))) (fun j => if j = 25 then k0_pay37 (iblk m c 0 t) (iblk m c 1 t) (iblk m c 2 t) (iblk m c 3 t) (iblk m c 4 t) (iblk m c 5 t) else slice dS0 j) := by
    rw [maxAt_succ m c t h0]
    exact congrArg _ (tiles_last m c t h2 dS0 hinv.1)
  rw [eo6, maxAt_succ m c t h0]
  iapply (bodyC c (grid0.coords t) _ _ _ _ _ _ _ _ _ _ _ _ _ _ _ _ _ _ _ _ (fun h => h0 ((hcond0_0 t).mp h)) ((hcond0_1 t).mpr h1) ((hcond0_2 t).mpr h2) (by rw [off_eq t, h2]) (iblk m c 0 t) (iblk m c 1 t) (iblk m c 2 t) (iblk m c 3 t) (iblk m c 4 t) (iblk m c 5 t) _ dS0 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  isplitl [HS1]; · iexact HS1
  iintro ⟨H0, H1, H2, H3, H4, H5, H6, H7, ⟨%dN, HS0⟩, ⟨%dM, HS1⟩⟩
  isplitl [HS0 HS1 Hg]
  · iexists dN, dM
    isplitr
    swap
    · isplitl [HS0 HS1]
      · isplitl [HS0]; · iexact HS0
        iexact HS1
      iexact Hg
    ipureintro
    exact ⟨fun j s _ hj => by omega, fun hn => by omega⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 26 = 0
  · exact sound_A m c t h0
  · by_cases h2 : t.val % 26 = 25
    · exact sound_C m c t h2
    · exact sound_B m c t h0 h2

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point, at whatever the carried scratch holds. -/
theorem hin (c : Dev nD) : Pipeline.ΦA spec0 c ⊢ (dats m 0 c).Φ 0 := by
  rw [show (dats m 0 c).Φ 0 = PhiS m c 0 (Nat.zero_le _) from rfl, PhiA0_eq]
  unfold PhiS
  iintro ⟨⟨⟨%dS0, HS0⟩, ⟨%dS1, HS1⟩⟩, Hg⟩
  iexists dS0, dS1
  isplitr
  · ipureintro; exact ⟨fun j s _ hj => absurd hj (by simp), fun hn => absurd (Nat.zero_mod 26) hn⟩
  isplitl [HS0 HS1]
  · isplitl [HS0]; · iexact HS0
    iexact HS1
  iexact Hg

/-- After the last point the invariant gives `ΦA` back: what the carried scratch holds is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA0_eq]
  unfold PhiS
  iintro ⟨%dS0, %dS1, -, ⟨HS0, HS1⟩, Hg⟩
  isplitl [HS0 HS1]
  · isplitl [HS0]
    · iexists _; iexact HS0
    iexists _; iexact HS1
  iexact Hg

/-! ## The run and the frame -/

set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: every run terminates, the argument arrays end unchanged and every semaphore counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.GateUpIdeal.Hand

end
-- ==== Proof.GateBits.lean ====
module

public import proofs.«01_k».proof.Defs
public import proofs.«01_k».proof.Proof.Gen.GateUp
public import proofs.«01_k».proof.Proof.GateFrame

@[expose] public section

set_option maxRecDepth 16384

noncomputable section

/-! ## The frame of the gate-up kernel as printed

The program as printed and its exact-arithmetic reading are one text over the interpretation of
the float types, and the frame was proved for every interpretation.  So it is enough that the two
body tables are equal: they are, label by label, and there is one label. -/

namespace Cert.GateUp.Hand

open Idealize.ShloMosaic Idealize.ShloMosaic.TcCoe Idealize.SL.Sem

variable {F : FTy → Type} [FloatOps F]

/-- The kernels' body tables of the two programs are the same table. -/
theorem kernelDefs_eq : Cert.GateUp.defs₀ (F := F) = Cert.GateUpIdeal.defs₀ (F := F) := by
  unfold Cert.GateUp.defs₀ Cert.GateUpIdeal.defs₀
  refine congrArg (Defs.onTc (nD := 1)) ?_
  funext l x
  match l, x with
  | ⟨0, _⟩, _ => rfl

/-- The body tables with the pipeline added are the same table. -/
theorem defs_eq : Cert.GateUp.defs (F := F) = Cert.GateUpIdeal.defs (F := F) := by
  unfold Cert.GateUp.defs Cert.GateUpIdeal.defs
  exact congrArg (Pipeline.defs (Cert.GateUpIdeal.pcfgs (F := F))) kernelDefs_eq

/-- The printed kernel runs to the end, leaves its four arguments as they were and every
    semaphore at zero. -/
theorem frame : Cert.quiescent_GateUp (hGateUp := Cert.GateUp.Gen.facts) := fun m ρ _ => by
  rw [defs_eq]
  exact Cert.GateUpIdeal.Hand.frame (F := Bits) m ρ

end Cert.GateUp.Hand
-- ==== Proof.GateTile.lean ====
module

public import proofs.«01_k».proof.Proof.GateFrame
public import proofs.«01_k».proof.Proof.GateSpec

@[expose] public section

set_option maxRecDepth 16384

noncomputable section

/-! ## The values the gate-up kernel computes, one operation chain at a time -/

namespace Cert.GateUpIdeal.RefValue

open Cert.GateUpIdeal Cert.GateUpIdeal.Gen Cert.GateUpIdeal.Hand Cert.Quant Idealize.ShloMosaic Idealize.ShloMosaic.TcCoe Idealize.SL.Sem
open Cert.GateRows (dot act lo hi entry)

section Tile

variable (x0 : Vec Ideal S512x16384 .fp8e4m3) (x1 : Vec Ideal S512x1 .f32) (x2 x3 : Vec Ideal S16384x256 .fp8e4m3) (x4 x5 : Vec Ideal S1x256 .f32)

/-- The product of a block of codes and a block of weights. -/
theorem prod_apply (x : Vec Ideal S512x16384 .fp8e4m3) (w : Vec Ideal S16384x256 .fp8e4m3) (r : Fin 512) (n : Fin 256) :
    (matmul (φ₁ := .fp8e4m3) (φ₂ := .fp8e4m3) dot_S512x16384_S16384x256_S512x256_1_0_0_1_n_n none x w (constant S512x256 .f32 0x00000000#32) : FVec Ideal S512x256 .f32) (ix2 r n)
      = dot x w r n := by
  pointwise [dot]

/-- A tile of `h`. -/
theorem pay36_apply (r : Fin 512) (l : Fin 256) :
    k0_pay36 x0 x1 x2 x3 x4 x5 (ix2 r l) = act (dot x0 x2 r l) (dot x0 x3 r l) (x1 (ix2 r 0)) (x4 (ix2 0 l)) (x5 (ix2 0 l)) := by
  have e := prod_apply x0 x2
  have e' := prod_apply x0 x3
  unfold k0_pay36
  generalize matmul (F := Ideal) (φ₁ := .fp8e4m3) (φ₂ := .fp8e4m3) dot_S512x16384_S16384x256_S512x256_1_0_0_1_n_n none x0 x2 (constant S512x256 .f32 0x00000000#32) = p at e ⊢
  generalize matmul (F := Ideal) (φ₁ := .fp8e4m3) (φ₂ := .fp8e4m3) dot_S512x16384_S16384x256_S512x256_1_0_0_1_n_n none x0 x3 (constant S512x256 .f32 0x00000000#32) = q at e' ⊢
  unfold act
  rw [← e, ← e']
  pointwise []

/-- The tile as it is stored. -/
theorem pay37_apply (z : Fin 1) (r : Fin 512) (l : Fin 256) :
    k0_pay37 x0 x1 x2 x3 x4 x5 (ix3 z r l) = k0_pay36 x0 x1 x2 x3 x4 x5 (ix2 r l) := by
  unfold k0_pay37
  generalize k0_pay36 x0 x1 x2 x3 x4 x5 = h
  pointwise []

/-- The larger of the two magnitudes a lane sees in a tile. -/
theorem pay38_apply (r : Fin 512) (l : Fin 128) :
    k0_pay38 x0 x1 x2 x3 x4 x5 (ix2 r l)
      = max (FloatOps.absf (F := Ideal) (φ := .f32) (k0_pay36 x0 x1 x2 x3 x4 x5 (ix2 r ⟨l.val, by omega⟩)) : EReal)
          (FloatOps.absf (F := Ideal) (φ := .f32) (k0_pay36 x0 x1 x2 x3 x4 x5 (ix2 r ⟨128 + l.val, by omega⟩))) := by
  unfold k0_pay38
  generalize k0_pay36 x0 x1 x2 x3 x4 x5 = h
  pointwise []

/-- The lane maxima a row block starts with. -/
theorem pay39_apply (r : Fin 512) (l : Fin 128) : k0_pay39 x0 x1 x2 x3 x4 x5 (ix2 r l) = k0_pay38 x0 x1 x2 x3 x4 x5 (ix2 r l) := by
  unfold k0_pay39
  generalize k0_pay38 x0 x1 x2 x3 x4 x5 = h
  pointwise []

/-- The lane maxima after one more tile. -/
theorem pay40_apply (v : Vec Ideal S512x128 .f32) (r : Fin 512) (l : Fin 128) :
    k0_pay40 x0 x1 x2 x3 x4 x5 v (ix2 r l) = (max (v (ix2 r l)) (k0_pay38 x0 x1 x2 x3 x4 x5 (ix2 r l)) : EReal) := by
  unfold k0_pay40
  generalize k0_pay38 x0 x1 x2 x3 x4 x5 = h
  pointwise []

end Tile

/-- The row maxima from the lane maxima. -/
theorem pay2_apply (v : Vec Ideal S512x128 .f32) (r : Fin 512) (z : Fin 1) :
    k0_pay2 v (ix2 r z) = (Finset.univ : Finset (Fin 128)).fold max (FloatOps.ofBits (F := Ideal) .f32 0xFF800000#32 : EReal)
      fun l => v (ix2 r l) := by
  pointwise [k0_pay2]

theorem pay3_apply (v : Vec Ideal S512x128 .f32) (i : S512x1.Idx) : k0_pay3 v i = ratio (k0_pay2 v i) := by
  unfold k0_pay3
  exact ratio_apply _ i

/-- The first four comparisons. -/
theorem pay4_eq (v : Vec Ideal S512x128 .f32) :
    k0_pay4 v = vstep (k0_pay3 v) (vstep (k0_pay3 v) (vstep (k0_pay3 v) (vstep (k0_pay3 v) (broadcast S512x1 0#32) 128#32) 64#32) 32#32) 16#32 := by
  unfold k0_pay4
  generalize k0_pay3 v = t
  dsimp only
  rw [vstep_eq, vstep_eq, vstep_eq, vstep_eq]

/-- The exponent as the last comparisons give it: zero at the ends of the range of fields. -/
def unbias (f : IVec S512x1 32) : IVec S512x1 32 :=
  select (ori (cmpi .eq f (broadcast S512x1 0#32)) (cmpi .eq f (broadcast S512x1 255#32))) (broadcast S512x1 0#32)
    (subi f (broadcast S512x1 126#32))

/-- The last four comparisons. -/
theorem pay5_eq (t : FVec Ideal S512x1 .f32) (f : IVec S512x1 32) :
    k0_pay5 t f 8#32 = unbias (vstep t (vstep t (vstep t (vstep t f 8#32) 4#32) 2#32) 1#32) := by
  unfold k0_pay5 unbias
  dsimp only
  rw [vstep_eq, vstep_eq, vstep_eq, vstep_eq]

/-- All eight comparisons. -/
theorem search_eq (v : Vec Ideal S512x128 .f32) : fieldOf v = unbias fun i => field (k0_pay3 v i) := by
  unfold fieldOf
  rw [pay5_eq, pay4_eq]
  refine congrArg unbias (funext fun i => ?_)
  exact vfield_apply _ i

/-- The exponents of the rows. -/
theorem pay6_apply (v : Vec Ideal S512x128 .f32) (i : S512x1.Idx) :
    k0_pay6 (k0_pay2 v) (fieldOf v) i = expo (k0_pay2 v i) (field (ratio (k0_pay2 v i))) := by
  rw [search_eq, ← pay3_apply]
  generalize k0_pay3 v = t
  generalize k0_pay2 v = a
  unfold k0_pay6 unbias
  exact expo_apply a (fun i => field (t i)) i

/-- The scales from the lane maxima. -/
theorem scaleOf_apply (v : Vec Ideal S512x128 .f32) (i : S512x1.Idx) : scaleOf v i = scaleK (k0_pay2 v i) := by
  have e := pay6_apply v i
  unfold scaleOf k0_pay7
  generalize k0_pay6 (k0_pay2 v) (fieldOf v) = f at e ⊢
  refine (scale_of_expo f i).trans ?_
  rw [e]
  rfl

/-- The reciprocals of the scales. -/
theorem recipOf_apply (v : Vec Ideal S512x128 .f32) (i : S512x1.Idx) : recipOf v i = invK (k0_pay2 v i) := by
  have e := pay6_apply v i
  unfold recipOf k0_pay8
  generalize k0_pay6 (k0_pay2 v) (fieldOf v) = f at e ⊢
  refine (inv_of_expo f i).trans ?_
  rw [e]
  rfl

/-- The codes of a tile. -/
theorem pay11_apply (v : FVec Ideal S512x1 .f32) (x : Vec Ideal S1x512x256 .f32) (r : Fin 512) (l : Fin 256) :
    k0_pay11 v x (ix2 r l) = code (x (ix3 0 r l)) (v (ix2 r 0)) := by
  pointwise [k0_pay11, code]

end Cert.GateUpIdeal.RefValue
-- ==== Proof.GateValue.lean ====
module

public import proofs.«01_k».proof.Proof.GateTile

@[expose] public section

set_option maxRecDepth 16384

noncomputable section

/-! ## What the gate-up call leaves in its results -/

namespace Cert.GateUpIdeal.RefValue

open Cert.GateUpIdeal Cert.GateUpIdeal.Gen Cert.GateUpIdeal.Hand Cert.Quant Idealize.ShloMosaic Idealize.ShloMosaic.TcCoe Idealize.SL.Sem
open Idealize.ShloMosaic.Pipeline (Dat)
open Cert.GateRows (dot act lo hi entry rowMax scales codes rowMax_nonneg)

variable (m : (ℓ : Loc nD τ sig) → Buf (Elt Ideal) ℓ) (ρ : Dev nD → PrngReg)

/-- Which block each window is at. -/
theorem idx : ∀ t : Fin cfg0.N, win0_0.index t = ![t.val / 26, 0] ∧ win0_1.index t = ![t.val / 26, 0] ∧ win0_2.index t = ![0, t.val % 26]
    ∧ win0_3.index t = ![0, t.val % 26 + 26] ∧ win0_4.index t = ![0, t.val % 26] ∧ win0_5.index t = ![0, t.val % 26 + 26]
    ∧ win0_6.index t = ![t.val / 26, 0] ∧ win0_7.index t = ![t.val / 26, 0] :=
  (by decide +kernel : ∀ t : Fin grid0.N, _)

/-- The results are written back at the last point of a row block. -/
theorem flush_last : ∀ t : Fin cfg0.N, (win0_6.flush t = true → t.val % 26 = 25) ∧ (win0_7.flush t = true → t.val % 26 = 25) :=
  (by decide +kernel : ∀ t : Fin grid0.N, _)

section Blocks

variable (c : Dev nD) (t : Fin cfg0.N)

theorem iblk0_apply (r : Fin 512) (k : Fin 16384) (R : Fin 3072) (h : R.val = t.val / 26 * 512 + r.val) :
    (iblk m c 0 t : Vec Ideal S512x16384 .fp8e4m3) (ix2 r k) = V m c main_arg0 (ix2 R k) := by
  blk_ext [iblk, idx t]

theorem iblk1_apply (r : Fin 512) (k : Fin 1) (R : Fin 3072) (h : R.val = t.val / 26 * 512 + r.val) :
    (iblk m c 1 t : Vec Ideal S512x1 .f32) (ix2 r k) = V m c main_arg1 (ix2 R k) := by
  blk_ext [iblk, idx t]

theorem iblk2_apply (k : Fin 16384) (l : Fin 256) (C : Fin 13312) (h : C.val = t.val % 26 * 256 + l.val) :
    (iblk m c 2 t : Vec Ideal S16384x256 .fp8e4m3) (ix2 k l) = V m c main_arg2 (ix2 k C) := by
  blk_ext [iblk, idx t]

theorem iblk3_apply (k : Fin 16384) (l : Fin 256) (C : Fin 13312) (h : C.val = (t.val % 26 + 26) * 256 + l.val) :
    (iblk m c 3 t : Vec Ideal S16384x256 .fp8e4m3) (ix2 k l) = V m c main_arg2 (ix2 k C) := by
  blk_ext [iblk, idx t]

theorem iblk4_apply (z : Fin 1) (l : Fin 256) (C : Fin 13312) (h : C.val = t.val % 26 * 256 + l.val) :
    (iblk m c 4 t : Vec Ideal S1x256 .f32) (ix2 z l) = V m c main_v0 (ix2 z C) := by
  blk_ext [iblk, idx t]

theorem iblk5_apply (z : Fin 1) (l : Fin 256) (C : Fin 13312) (h : C.val = (t.val % 26 + 26) * 256 + l.val) :
    (iblk m c 5 t : Vec Ideal S1x256 .f32) (ix2 z l) = V m c main_v0 (ix2 z C) := by
  blk_ext [iblk, idx t]

/-- A product of blocks is the entry of the product of the arrays. -/
theorem dot_congr {M M' N N' : ℕ} {X : (⟨2, ![M, 16384]⟩ : Shape).Idx → Ideal .fp8e4m3} {X' : (⟨2, ![M', 16384]⟩ : Shape).Idx → Ideal .fp8e4m3}
    {W : (⟨2, ![16384, N]⟩ : Shape).Idx → Ideal .fp8e4m3} {W' : (⟨2, ![16384, N']⟩ : Shape).Idx → Ideal .fp8e4m3}
    {r : Fin M} {r' : Fin M'} {n : Fin N} {n' : Fin N'} (hX : ∀ k, X (ix2 r k) = X' (ix2 r' k)) (hW : ∀ k, W (ix2 k n) = W' (ix2 k n')) :
    dot X W r n = dot X' W' r' n' := by
  unfold dot
  exact Finset.sum_congr rfl fun k _ => by rw [hX, hW]

/-- Entry `(r, c)` of `h`, from the arrays the region finds. -/
def hEntry (R : Fin 3072) (C : Fin 6656) : Ideal .f32 :=
  entry (V m c main_arg0) (V m c main_arg1) (V m c main_arg2) (V m c main_v0) R C

/-- The tile of a point is that part of `h`. -/
theorem tile_apply (r : Fin 512) (l : Fin 256) (R : Fin 3072) (C : Fin 6656) (hR : R.val = t.val / 26 * 512 + r.val)
    (hC : C.val = t.val % 26 * 256 + l.val) :
    k0_pay36 (iblk m c 0 t) (iblk m c 1 t) (iblk m c 2 t) (iblk m c 3 t) (iblk m c 4 t) (iblk m c 5 t) (ix2 r l) = hEntry m c R C := by
  have hl : (lo C).val = t.val % 26 * 256 + l.val := hC
  have hh : (hi C).val = (t.val % 26 + 26) * 256 + l.val := by
    show 6656 + C.val = _
    omega
  refine (pay36_apply _ _ _ _ _ _ r l).trans ?_
  unfold hEntry entry
  have e1 : dot (iblk m c 0 t : Vec Ideal S512x16384 .fp8e4m3) (iblk m c 2 t : Vec Ideal S16384x256 .fp8e4m3) r l
      = dot (V m c main_arg0) (V m c main_arg2) R (lo C) :=
    dot_congr (fun k => iblk0_apply m c t r k R hR) (fun k => iblk2_apply m c t k l _ hl)
  have e2 : dot (iblk m c 0 t : Vec Ideal S512x16384 .fp8e4m3) (iblk m c 3 t : Vec Ideal S16384x256 .fp8e4m3) r l
      = dot (V m c main_arg0) (V m c main_arg2) R (hi C) :=
    dot_congr (fun k => iblk0_apply m c t r k R hR) (fun k => iblk3_apply m c t k l _ hh)
  exact (congr (congr (congr (congr (congrArg act e1) e2) (iblk1_apply m c t r 0 R hR)) (iblk4_apply m c t 0 l _ hl))
    (iblk5_apply m c t 0 l _ hh))

end Blocks

/-! ## The row maxima -/

/-- A magnitude of `h`. -/
def mag (c : Dev nD) (R : Fin 3072) (C : Fin 6656) : EReal := FloatOps.absf (F := Ideal) (φ := .f32) (hEntry m c R C)

/-- The row of the array that row `r` of the block of point `t` is. -/
def row (t : Fin cfg0.N) (r : Fin 512) : Fin 3072 :=
  ⟨t.val / 26 * 512 + r.val, by have h : t.val < 156 := lt_of_lt_of_eq t.isLt N_0; omega⟩

/-- Lane `l` of tile `j`, as a column of `h`. -/
def col (j : Fin 26) (l : Fin 256) : Fin 6656 := ⟨j.val * 256 + l.val, by omega⟩

/-- What a lane sees in the tile of a point. -/
theorem tileMax_apply (c : Dev nD) (t : Fin cfg0.N) (r : Fin 512) (l : Fin 128) :
    k0_pay38 (iblk m c 0 t) (iblk m c 1 t) (iblk m c 2 t) (iblk m c 3 t) (iblk m c 4 t) (iblk m c 5 t) (ix2 r l)
      = max (mag m c (row t r) (col ⟨t.val % 26, by omega⟩ ⟨l.val, by omega⟩))
          (mag m c (row t r) (col ⟨t.val % 26, by omega⟩ ⟨128 + l.val, by omega⟩)) := by
  refine (pay38_apply _ _ _ _ _ _ r l).trans ?_
  exact congr (congrArg max (congrArg (FloatOps.absf (F := Ideal) (φ := .f32)) (tile_apply m c t r _ (row t r) _ rfl rfl)))
    (congrArg (FloatOps.absf (F := Ideal) (φ := .f32)) (tile_apply m c t r _ (row t r) _ rfl rfl))

/-- The running lane maxima bound exactly the tiles of the row block so far. -/
theorem maxAt_le (c : Dev nD) (r : Fin 512) (l : Fin 128) (z : EReal) : ∀ (n : ℕ) (t : Fin cfg0.N), t.val % 26 = n →
    ((maxAt m c t (ix2 r l) : EReal) ≤ z ↔ ∀ j : Fin 26, j.val ≤ n →
      mag m c (row t r) (col j ⟨l.val, by omega⟩) ≤ z ∧ mag m c (row t r) (col j ⟨128 + l.val, by omega⟩) ≤ z) := by
  intro n
  induction n with
  | zero =>
    intro t h
    rw [maxAt_zero m c t h, pay39_apply, tileMax_apply, max_le_iff]
    constructor
    · intro hz j hj
      have e : (⟨t.val % 26, by omega⟩ : Fin 26) = j := Fin.ext (by show t.val % 26 = j.val; omega)
      rw [e] at hz
      exact hz
    · intro hz
      exact hz _ (by show t.val % 26 ≤ 0; omega)
  | succ n ih =>
    intro t h
    have ht : t.val - 1 < cfg0.N := by have := t.isLt; omega
    have hp := ih ⟨t.val - 1, ht⟩ (by show (t.val - 1) % 26 = n; omega)
    have hrow : row ⟨t.val - 1, ht⟩ r = row t r := Fin.ext (by
      show (t.val - 1) / 26 * 512 + r.val = t.val / 26 * 512 + r.val
      have : (t.val - 1) / 26 = t.val / 26 := by omega
      rw [this])
    rw [hrow] at hp
    rw [maxAt_succ m c t (by omega), pay40_apply, tileMax_apply, max_le_iff, max_le_iff, hp]
    constructor
    · rintro ⟨h1, h2⟩ j hj
      by_cases hjn : j.val ≤ n
      · exact h1 j hjn
      · have e : (⟨t.val % 26, by omega⟩ : Fin 26) = j := Fin.ext (by show t.val % 26 = j.val; omega)
        rw [e] at h2
        exact h2
    · intro hz
      exact ⟨fun j hj => hz j (by omega), hz _ (by show t.val % 26 ≤ n + 1; omega)⟩

/-- At the last point of a row block the lane maxima give the rows' maxima. -/
theorem rowMax_last (c : Dev nD) (t : Fin cfg0.N) (h : t.val % 26 = 25) (r : Fin 512) (z : Fin 1) :
    k0_pay2 (maxAt m c t) (ix2 r z) = rowMax (V m c main_arg0) (V m c main_arg1) (V m c main_arg2) (V m c main_v0) (row t r) := by
  rw [pay2_apply]
  unfold rowMax
  refine eq_of_forall_ge_iff fun x => ?_
  rw [Finset.fold_max_le, Finset.fold_max_le]
  refine and_congr Iff.rfl ⟨fun hx C _ => ?_, fun hx l _ => ?_⟩
  · show mag m c (row t r) C ≤ x
    have hC := C.isLt
    by_cases hl : C.val % 256 < 128
    · have hj := ((maxAt_le m c r ⟨C.val % 256, hl⟩ x 25 t h).1 (hx _ (Finset.mem_univ _)) ⟨C.val / 256, by omega⟩ (by show C.val / 256 ≤ 25; omega)).1
      have e : col ⟨C.val / 256, by omega⟩ ⟨C.val % 256, by omega⟩ = C := Fin.ext (by show C.val / 256 * 256 + C.val % 256 = C.val; omega)
      rwa [e] at hj
    · have hj := ((maxAt_le m c r ⟨C.val % 256 - 128, by omega⟩ x 25 t h).1 (hx _ (Finset.mem_univ _)) ⟨C.val / 256, by omega⟩ (by show C.val / 256 ≤ 25; omega)).2
      have e : col ⟨C.val / 256, by omega⟩ ⟨128 + (C.val % 256 - 128), by omega⟩ = C :=
        Fin.ext (by show C.val / 256 * 256 + (128 + (C.val % 256 - 128)) = C.val; omega)
      rwa [e] at hj
  · exact (maxAt_le m c r l x 25 t h).2 fun j _ => ⟨hx _ (Finset.mem_univ _), hx _ (Finset.mem_univ _)⟩

/-! ## The results -/

/-- Where row `r` of a point's block lies in an array of rows. -/
theorem row_pt (t : Fin cfg0.N) (j : Fin 26) (r : Fin 512) : row (pt t j) r = row t r := Fin.ext (by
  show (26 * (t.val / 26) + j.val) / 26 * 512 + r.val = t.val / 26 * 512 + r.val
  have : (26 * (t.val / 26) + j.val) / 26 = t.val / 26 := by omega
  rw [this])

/-- The tile of point `j` of a row block, entry by entry. -/
theorem tileAt_apply (c : Dev nD) (t : Fin cfg0.N) (j : Fin 26) (z : Fin 1) (r : Fin 512) (l : Fin 256) (C : Fin 6656)
    (hC : C.val = j.val * 256 + l.val) : tileAt m c (pt t j) (ix3 z r l) = hEntry m c (row t r) C := by
  unfold tileAt
  refine (pay37_apply _ _ _ _ _ _ z r l).trans ?_
  rw [← row_pt t j r]
  refine tile_apply m c (pt t j) r l _ C rfl ?_
  show C.val = (26 * (t.val / 26) + j.val) % 26 * 256 + l.val
  have : (26 * (t.val / 26) + j.val) % 26 = j.val := by omega
  rw [this, hC]

/-- The block of codes at an entry. -/
theorem codes_apply (c : Dev nD) (t : Fin cfg0.N) (inv : FVec Ideal S512x1 .f32) (r : Fin 512) (C : Fin 6656) :
    codesOf inv (fun j => tileAt m c (pt t j)) (ix2 r C) = code (hEntry m c (row t r) C) (inv (ix2 r 0)) := by
  have hC := C.isLt
  refine (pay11_apply inv (tileAt m c (pt t ⟨C.val / 256, by omega⟩)) r ⟨C.val % 256, by omega⟩).trans ?_
  exact congrArg (fun v => code v (inv (ix2 r 0))) (tileAt_apply m c t _ 0 r _ C (by show C.val = C.val / 256 * 256 + C.val % 256; omega))

/-- The array of scales after the run. -/
theorem final7 (c : Dev nD) :
    (dats m 0 c).arrAt 7 cfg0.N = scales (V m c main_arg0) (V m c main_arg1) (V m c main_arg2) (V m c main_v0) := by
  refine (dats m 0 c).arrAt_eq_of_covers 7 _ (by decide +kernel) fun t hf y => ?_
  have hl := (flush_last t).2 hf
  blk_simp
  rw [after0_7]
  idx_vars y
  have e : ((View.whole main_v1_1).slice (win0_7.rect t)).emb (ix2 y0 y1) = ix2 (row t y0) y1 := by
    unfold row
    blk_ext [idx t]
  rw [e, scaleOf_apply, rowMax_last m c t hl, Cert.Quant.scale_eq (rowMax_nonneg _ _ _ _ _)]
  rfl

/-- The array of codes after the run. -/
theorem final6 (c : Dev nD) :
    (dats m 0 c).arrAt 6 cfg0.N = codes (V m c main_arg0) (V m c main_arg1) (V m c main_arg2) (V m c main_v0) := by
  refine (dats m 0 c).arrAt_eq_of_covers 6 _ (by decide +kernel) fun t hf y => ?_
  have hl := (flush_last t).1 hf
  blk_simp
  rw [after0_6]
  idx_vars y
  have e : ((View.whole main_v1_0).slice (win0_6.rect t)).emb (ix2 y0 y1) = ix2 (row t y0) y1 := by
    unfold row
    blk_ext [idx t]
  rw [e, codes_apply, recipOf_apply, rowMax_last m c t hl, Cert.Quant.inv_eq (rowMax_nonneg _ _ _ _ _)]
  rfl

/-- The run: both results, and the arguments unchanged. -/
theorem run : θ_run defs (onTc (τ := τ) (main (F := Ideal))) ⟨m, fun _ => 0, ρ⟩ fun r => ∀ c : Dev nD,
      r.2.mem ((c : Thread nD τ).loc main_v1_1) = scales (V m c main_arg0) (V m c main_arg1) (V m c main_arg2) (V m c main_v0)
      ∧ r.2.mem ((c : Thread nD τ).loc main_v1_0) = codes (V m c main_arg0) (V m c main_arg1) (V m c main_arg2) (V m c main_v0)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h.1 c).1 7).trans (final7 m c), ((h.1 c).1 6).trans (final6 m c), h.2 c⟩)
    (θ_run_and (run_main m ρ) (unchanged m ρ))

end Cert.GateUpIdeal.RefValue
-- ==== Proof.Host.lean ====
module

public import proofs.«01_k».proof.Proof.QuantRef
public import proofs.«01_k».proof.Proof.GateRef
public import proofs.«01_k».proof.Proof.GateValue

@[expose] public section

noncomputable section

/-! ## The arguments as the calls find them: each program's host code reshapes one argument -/

open Idealize.ShloMosaic Idealize.ShloMosaic.TcCoe Idealize.SL.Sem

namespace Cert.QuantXIdeal.RefValue

open Cert.QuantXIdeal Cert.QuantXIdeal.Gen

/-- The activations as `3072` rows. -/
theorem V_main_v0 (m : (ℓ : Loc nD τ sig) → Buf (Elt Ideal) ℓ) (c : Dev nD) :
    V m c main_v0 = shapeCast S3072x16384 (m ((c : Thread nD τ).loc main_arg0)) shapeCasts_S4x768x16384_S3072x16384 := by
  show StableHlo.after hostOps0 _ (Proc.devRef .tc main_v0) = _
  after_results
  rfl

end Cert.QuantXIdeal.RefValue

namespace Cert.QuantRefIdeal.RefValue

open Cert.QuantRefIdeal Cert.QuantRefIdeal.Gen

/-- The activations as `3072` rows. -/
theorem V_main_v0 (m : (ℓ : Loc nD τ sig) → Buf (Elt Ideal) ℓ) (c : Dev nD) :
    V m c main_v0 = shapeCast S3072x16384 (m ((c : Thread nD τ).loc main_arg0)) shapeCasts_S4x768x16384_S3072x16384 := by
  show StableHlo.after hostOps0 _ (Proc.devRef .tc main_v0) = _
  after_results
  rfl

end Cert.QuantRefIdeal.RefValue

namespace Cert.GateUpIdeal.RefValue

open Cert.GateUpIdeal Cert.GateUpIdeal.Gen

/-- The weights' scales as one row. -/
theorem V_main_v0 (m : (ℓ : Loc nD τ sig) → Buf (Elt Ideal) ℓ) (c : Dev nD) :
    V m c main_v0 = shapeCast S1x13312 (m ((c : Thread nD τ).loc main_arg3)) shapeCasts_S13312_S1x13312 := by
  show StableHlo.after hostOps0 _ (Proc.devRef .tc main_v0) = _
  after_results
  rfl

end Cert.GateUpIdeal.RefValue

namespace Cert.GateRefIdeal.RefValue

open Cert.GateRefIdeal Cert.GateRefIdeal.Gen

/-- The weights' scales as one row. -/
theorem V_main_v0 (m : (ℓ : Loc nD τ sig) → Buf (Elt Ideal) ℓ) (c : Dev nD) :
    V m c main_v0 = shapeCast S1x13312 (m ((c : Thread nD τ).loc main_arg3)) shapeCasts_S13312_S1x13312 := by
  show StableHlo.after hostOps0 _ (Proc.devRef .tc main_v0) = _
  after_results
  rfl

end Cert.GateRefIdeal.RefValue
-- ==== Proof.lean ====
/- The proof of the claims: the frames of the six programs, and that each kernel's two results are its reference's.
   The frames of four programs are the generated ones; that of the gate-up kernel at exact arithmetic is `GateFrame`'s, and that of
   the gate-up kernel as printed is got from it in `GateBits`. -/
module

public import proofs.«01_k».proof.Defs
public import proofs.«01_k».proof.Proof.Gen.QuantX
public import proofs.«01_k».proof.Proof.Gen.QuantX.Skeleton
public import proofs.«01_k».proof.Proof.Gen.QuantX.Launch
public import proofs.«01_k».proof.Proof.Gen.QuantX.Points
public import proofs.«01_k».proof.Proof.Gen.QuantX.Frame
public import proofs.«01_k».proof.Proof.Gen.QuantXIdeal
public import proofs.«01_k».proof.Proof.Gen.QuantXIdeal.Skeleton
public import proofs.«01_k».proof.Proof.Gen.QuantXIdeal.Launch
public import proofs.«01_k».proof.Proof.Gen.QuantXIdeal.Points
public import proofs.«01_k».proof.Proof.Gen.QuantXIdeal.Frame
public import proofs.«01_k».proof.Proof.Gen.QuantRefIdeal
public import proofs.«01_k».proof.Proof.Gen.QuantRefIdeal.Skeleton
public import proofs.«01_k».proof.Proof.Gen.QuantRefIdeal.Launch
public import proofs.«01_k».proof.Proof.Gen.QuantRefIdeal.Points
public import proofs.«01_k».proof.Proof.Gen.QuantRefIdeal.Frame
public import proofs.«01_k».proof.Proof.Gen.GateUp
public import proofs.«01_k».proof.Proof.Gen.GateUp.Skeleton
public import proofs.«01_k».proof.Proof.Gen.GateUp.Launch
public import proofs.«01_k».proof.Proof.Gen.GateUp.Points
public import proofs.«01_k».proof.Proof.Gen.GateUp.Frame
public import proofs.«01_k».proof.Proof.Gen.GateUpIdeal
public import proofs.«01_k».proof.Proof.Gen.GateUpIdeal.Skeleton
public import proofs.«01_k».proof.Proof.Gen.GateUpIdeal.Launch
public import proofs.«01_k».proof.Proof.Gen.GateUpIdeal.Points
public import proofs.«01_k».proof.Proof.Gen.GateUpIdeal.Frame
public import proofs.«01_k».proof.Proof.Gen.GateRefIdeal
public import proofs.«01_k».proof.Proof.Gen.GateRefIdeal.Skeleton
public import proofs.«01_k».proof.Proof.Gen.GateRefIdeal.Launch
public import proofs.«01_k».proof.Proof.Gen.GateRefIdeal.Points
public import proofs.«01_k».proof.Proof.Gen.GateRefIdeal.Frame
public import proofs.«01_k».proof.Proof.Gen.QuantXIdeal.Value
public import proofs.«01_k».proof.Proof.Gen.QuantRefIdeal.Value
public import proofs.«01_k».proof.Proof.Gen.GateRefIdeal.Value
public import proofs.«01_k».proof.Proof.QuantX
public import proofs.«01_k».proof.Proof.QuantRef
public import proofs.«01_k».proof.Proof.GateRef
public import proofs.«01_k».proof.Proof.GateFrame
public import proofs.«01_k».proof.Proof.GateBits
public import proofs.«01_k».proof.Proof.GateValue
public import proofs.«01_k».proof.Proof.Host
public import Idealize.ShloMosaic.Adequacy
public import Idealize.ShloMosaic.Init

@[expose] public section

noncomputable section

namespace Cert.Proof

open Idealize.ShloMosaic Idealize.ShloMosaic.TcCoe Idealize.SL.Sem

/-- The quantising kernel and its reference, at exact arithmetic, leave the same codes and scales. -/
theorem quant_algebraic : Cert.algebraic_QuantXIdeal_QuantRefIdeal (hQuantXIdeal := Cert.QuantXIdeal.Gen.facts)
    (hQuantRefIdeal := Cert.QuantRefIdeal.Gen.facts) := by
  intro m ρ m' ρ' _ hagree
  have e (c) : Cert.QuantRefIdeal.Gen.V m' c Cert.QuantRefIdeal.main_v0 = Cert.QuantXIdeal.Gen.V m c Cert.QuantXIdeal.main_v0 := by
    rw [Cert.QuantRefIdeal.RefValue.V_main_v0, Cert.QuantXIdeal.RefValue.V_main_v0]
    exact congrArg (fun x => shapeCast Cert.QuantXIdeal.S3072x16384 x Cert.QuantXIdeal.Gen.shapeCasts_S4x768x16384_S3072x16384) (hagree c)
  refine ⟨fun c => Cert.QuantRows.codes (n := 3072) (Cert.QuantXIdeal.Gen.V m c Cert.QuantXIdeal.main_v0),
    fun c => Cert.QuantRows.scales (n := 3072) (Cert.QuantXIdeal.Gen.V m c Cert.QuantXIdeal.main_v0),
    Cert.QuantXIdeal.RefValue.run m ρ,
    (θ_run Cert.QuantRefIdeal.defs _ _).mono (fun _ h c => ?_) (Cert.QuantRefIdeal.RefValue.run m' ρ')⟩
  exact ⟨(h c).1.trans (congrArg (Cert.QuantRows.codes (n := 3072)) (e c)),
    (h c).2.1.trans (congrArg (Cert.QuantRows.scales (n := 3072)) (e c)), (h c).2.2⟩

/-- The gate-up kernel and its reference, at exact arithmetic, leave the same scales and codes. -/
theorem gate_algebraic : Cert.algebraic_GateUpIdeal_GateRefIdeal (hGateUpIdeal := Cert.GateUpIdeal.Gen.facts)
    (hGateRefIdeal := Cert.GateRefIdeal.Gen.facts) := by
  intro m ρ m' ρ' _ hagree
  have e0 (c) : Cert.GateRefIdeal.Gen.V m' c Cert.GateRefIdeal.main_arg0 = Cert.GateUpIdeal.Gen.V m c Cert.GateUpIdeal.main_arg0 :=
    (Cert.GateRefIdeal.Gen.V_main_arg0 m' c).trans ((hagree c).1.trans (Cert.GateUpIdeal.Gen.V_main_arg0 m c).symm)
  have e1 (c) : Cert.GateRefIdeal.Gen.V m' c Cert.GateRefIdeal.main_arg1 = Cert.GateUpIdeal.Gen.V m c Cert.GateUpIdeal.main_arg1 :=
    (Cert.GateRefIdeal.Gen.V_main_arg1 m' c).trans ((hagree c).2.1.trans (Cert.GateUpIdeal.Gen.V_main_arg1 m c).symm)
  have e2 (c) : Cert.GateRefIdeal.Gen.V m' c Cert.GateRefIdeal.main_arg2 = Cert.GateUpIdeal.Gen.V m c Cert.GateUpIdeal.main_arg2 :=
    (Cert.GateRefIdeal.Gen.V_main_arg2 m' c).trans ((hagree c).2.2.1.trans (Cert.GateUpIdeal.Gen.V_main_arg2 m c).symm)
  have e3 (c) : Cert.GateRefIdeal.Gen.V m' c Cert.GateRefIdeal.main_v0 = Cert.GateUpIdeal.Gen.V m c Cert.GateUpIdeal.main_v0 := by
    rw [Cert.GateRefIdeal.RefValue.V_main_v0, Cert.GateUpIdeal.RefValue.V_main_v0]
    exact congrArg (fun x => shapeCast Cert.GateUpIdeal.S1x13312 x Cert.GateUpIdeal.Gen.shapeCasts_S13312_S1x13312) (hagree c).2.2.2
  refine ⟨fun c => Cert.GateRows.scales (Cert.GateUpIdeal.Gen.V m c Cert.GateUpIdeal.main_arg0) (Cert.GateUpIdeal.Gen.V m c Cert.GateUpIdeal.main_arg1)
      (Cert.GateUpIdeal.Gen.V m c Cert.GateUpIdeal.main_arg2) (Cert.GateUpIdeal.Gen.V m c Cert.GateUpIdeal.main_v0),
    fun c => Cert.GateRows.codes (Cert.GateUpIdeal.Gen.V m c Cert.GateUpIdeal.main_arg0) (Cert.GateUpIdeal.Gen.V m c Cert.GateUpIdeal.main_arg1)
      (Cert.GateUpIdeal.Gen.V m c Cert.GateUpIdeal.main_arg2) (Cert.GateUpIdeal.Gen.V m c Cert.GateUpIdeal.main_v0),
    Cert.GateUpIdeal.RefValue.run m ρ,
    (θ_run Cert.GateRefIdeal.defs _ _).mono (fun _ h c => ?_) (Cert.GateRefIdeal.RefValue.run m' ρ')⟩
  exact ⟨(h c).1.trans (congr (congr (congr (congrArg Cert.GateRows.scales (e0 c)) (e1 c)) (e2 c)) (e3 c)),
    (h c).2.1.trans (congr (congr (congr (congrArg Cert.GateRows.codes (e0 c)) (e1 c)) (e2 c)) (e3 c)), (h c).2.2⟩

/-- Every claim of the certificate. -/
theorem claim : Cert.Claim :=
  ⟨Cert.QuantX.Gen.facts, Cert.QuantXIdeal.Gen.facts, Cert.QuantRefIdeal.Gen.facts, Cert.GateUp.Gen.facts,
    Cert.GateUpIdeal.Gen.facts, Cert.GateRefIdeal.Gen.facts,
    fun m ρ _ => Cert.QuantX.Gen.frame m ρ, fun m ρ _ => Cert.QuantXIdeal.Gen.frame m ρ,
    fun m ρ _ => Cert.QuantRefIdeal.Gen.frame m ρ, Cert.GateUp.Hand.frame,
    fun m ρ _ => Cert.GateUpIdeal.Hand.frame m ρ, fun m ρ _ => Cert.GateRefIdeal.Gen.frame m ρ,
    trivial, quant_algebraic, trivial, gate_algebraic⟩

end Cert.Proof

end
